-- ==== Defs.lean ====
def Pre_Kernel [hPre_tables_in_range : Cert.Pre_tables_in_range.Facts] (m : (ℓ : Loc Cert.Kernel.nD Cert.Kernel.τ Cert.Kernel.sig) → Buf (Elt Bits) ℓ) : Prop :=
  ∀ c : Dev Cert.Kernel.nD,
    (Cert.Pre_tables_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_tables_in_range : Cert.Pre_tables_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tables_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_tables_in_range : Cert.Pre_tables_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_all_finite : Cert.Pre_all_finite.Facts] (m : (ℓ : Loc Cert.Kernel4.nD Cert.Kernel4.τ Cert.Kernel4.sig) → Buf (Elt Bits) ℓ) : Prop :=
  ∀ c : Dev Cert.Kernel4.nD,
    (Cert.Pre_all_finite.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6)) (m ((c.tc : Thread Cert.Kernel4.nD Cert.Kernel4.τ).loc Cert.Kernel4.main_arg7)) (m ((c.tc : Thread Cert.Kernel4.nD Cert.Kernel4.τ).loc Cert.Kernel4.main_arg8)) (m ((c.tc : Thread Cert.Kernel4.nD Cert.Kernel4.τ).loc Cert.Kernel4.main_arg9)) (m ((c.tc : Thread Cert.Kernel4.nD Cert.Kernel4.τ).loc Cert.Kernel4.main_arg10))) = (fun _ => 1#1)

def Pre_Kernel4Ideal [hPre_all_finite : Cert.Pre_all_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_all_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))) = (fun _ => 1#1)

def Pre_Reference4Ideal [hPre_all_finite : Cert.Pre_all_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_all_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10))) = (fun _ => 1#1)

def quiescent_Kernel [hKernel : Cert.Kernel.Facts] [hPre_tables_in_range : Cert.Pre_tables_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_tables_in_range : Cert.Pre_tables_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] [hPre_all_finite : Cert.Pre_all_finite.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] [hPre_all_finite : Cert.Pre_all_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] [hPre_all_finite : Cert.Pre_all_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v10)) (v1 : (c : Dev Cert.Kernel2Ideal.nD) → Buf (Elt Ideal) ((c.tc : Thread Cert.Kernel2Ideal.nD Cert.Kernel2Ideal.τ).loc Cert.Kernel2Ideal.main_v12)) (v2 : (c : Dev Cert.Kernel2Ideal.nD) → Buf (Elt Ideal) ((c.tc : Thread Cert.Kernel2Ideal.nD Cert.Kernel2Ideal.τ).loc Cert.Kernel2Ideal.main_v14)) (v3 : (c : Dev Cert.Kernel2Ideal.nD) → Buf (Elt Ideal) ((c.tc : Thread Cert.Kernel2Ideal.nD Cert.Kernel2Ideal.τ).loc Cert.Kernel2Ideal.main_v16)) (v4 : (c : Dev Cert.Kernel2Ideal.nD) → Buf (Elt Ideal) ((c.tc : Thread Cert.Kernel2Ideal.nD Cert.Kernel2Ideal.τ).loc Cert.Kernel2Ideal.main_v6_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_v12) = v1 c
          ∧ r.2.mem ((c.tc : Thread Cert.Kernel2Ideal.nD Cert.Kernel2Ideal.τ).loc Cert.Kernel2Ideal.main_v14) = v2 c
          ∧ r.2.mem ((c.tc : Thread Cert.Kernel2Ideal.nD Cert.Kernel2Ideal.τ).loc Cert.Kernel2Ideal.main_v16) = v3 c
          ∧ r.2.mem ((c.tc : Thread Cert.Kernel2Ideal.nD Cert.Kernel2Ideal.τ).loc Cert.Kernel2Ideal.main_v6_1) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_v5) = v1 c
          ∧ r.2.mem ((c.tc : Thread Cert.Reference2Ideal.nD Cert.Reference2Ideal.τ).loc Cert.Reference2Ideal.main_v15) = v2 c
          ∧ r.2.mem ((c.tc : Thread Cert.Reference2Ideal.nD Cert.Reference2Ideal.τ).loc Cert.Reference2Ideal.main_v17) = v3 c
          ∧ r.2.mem ((c.tc : Thread Cert.Reference2Ideal.nD Cert.Reference2Ideal.τ).loc Cert.Reference2Ideal.main_v25) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v10)) (v1 : (c : Dev Cert.Kernel3Ideal.nD) → Buf (Elt Ideal) ((c.tc : Thread Cert.Kernel3Ideal.nD Cert.Kernel3Ideal.τ).loc Cert.Kernel3Ideal.main_v12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_v12) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v33) = v0 c
          ∧ r.2.mem ((c.tc : Thread Cert.Reference3Ideal.nD Cert.Reference3Ideal.τ).loc Cert.Reference3Ideal.main_v35) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] [hPre_all_finite : Cert.Pre_all_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v243)) (v1 : (c : Dev Cert.Kernel4Ideal.nD) → Buf (Elt Ideal) ((c.tc : Thread Cert.Kernel4Ideal.nD Cert.Kernel4Ideal.τ).loc Cert.Kernel4Ideal.main_v244)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v243) = v0 c
          ∧ r.2.mem ((c.tc : Thread Cert.Kernel4Ideal.nD Cert.Kernel4Ideal.τ).loc Cert.Kernel4Ideal.main_v244) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v217) = v0 c
          ∧ r.2.mem ((c.tc : Thread Cert.Reference4Ideal.nD Cert.Reference4Ideal.τ).loc Cert.Reference4Ideal.main_v218) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_tables_in_range : Cert.Pre_tables_in_range.Facts) (hPre_all_finite : Cert.Pre_all_finite.Facts),
    quiescent_Kernel (hKernel := hKernel) (hPre_tables_in_range := hPre_tables_in_range)
    ∧ quiescent_KernelIdeal (hKernelIdeal := hKernelIdeal) (hPre_tables_in_range := hPre_tables_in_range)
    ∧ quiescent_ReferenceIdeal (hReferenceIdeal := hReferenceIdeal) (hPre_tables_in_range := hPre_tables_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_all_finite := hPre_all_finite)
    ∧ quiescent_Kernel4Ideal (hKernel4Ideal := hKernel4Ideal) (hPre_all_finite := hPre_all_finite)
    ∧ quiescent_Reference4Ideal (hReference4Ideal := hReference4Ideal) (hPre_all_finite := hPre_all_finite)
    ∧ preserves_Kernel_KernelIdeal
    ∧ algebraic_KernelIdeal_ReferenceIdeal (hKernelIdeal := hKernelIdeal) (hReferenceIdeal := hReferenceIdeal) (hPre_tables_in_range := hPre_tables_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal) (hPre_all_finite := hPre_all_finite)
-- ==== Pre_all_finite.lean ====
abbrev S1152x8x2048 : Shape := ⟨3, ![1152, 8, 2048]⟩
abbrev S1x128x128x64 : Shape := ⟨4, ![1, 128, 128, 64]⟩
abbrev S1x128x64 : Shape := ⟨3, ![1, 128, 64]⟩
abbrev S1x128 : Shape := ⟨2, ![1, 128]⟩
abbrev S1x128x64x16 : Shape := ⟨4, ![1, 128, 64, 16]⟩
abbrev S1x128x16x64 : Shape := ⟨4, ![1, 128, 16, 64]⟩
abbrev S1x128x16 : Shape := ⟨3, ![1, 128, 16]⟩
abbrev S_ : Shape := ⟨0, ![]⟩

class Facts : Prop where
  bcast_S_S1152x8x2048 : S_.BroadcastsInDim S1152x8x2048 (![] : Fin 0 → Fin S1152x8x2048.rank)
  reducesTo_S1152x8x2048_S_d0_1_2 : S1152x8x2048.ReducesTo [0, 1, 2] S_
  h_S_ : 0 < S_.numel
  bcast_S_S1x128x128x64 : S_.BroadcastsInDim S1x128x128x64 (![] : Fin 0 → Fin S1x128x128x64.rank)
  reducesTo_S1x128x128x64_S_d0_1_2_3 : S1x128x128x64.ReducesTo [0, 1, 2, 3] S_
  bcast_S_S1x128x64 : S_.BroadcastsInDim S1x128x64 (![] : Fin 0 → Fin S1x128x64.rank)
  reducesTo_S1x128x64_S_d0_1_2 : S1x128x64.ReducesTo [0, 1, 2] S_
  bcast_S_S1x128 : S_.BroadcastsInDim S1x128 (![] : Fin 0 → Fin S1x128.rank)
  reducesTo_S1x128_S_d0_1 : S1x128.ReducesTo [0, 1] S_
  bcast_S_S1x128x64x16 : S_.BroadcastsInDim S1x128x64x16 (![] : Fin 0 → Fin S1x128x64x16.rank)
  reducesTo_S1x128x64x16_S_d0_1_2_3 : S1x128x64x16.ReducesTo [0, 1, 2, 3] S_

variable [Facts]

def fn_part2 {F : FTy → Type} [FloatOps F] (main_arg7 : FVec F S1x128x64x16 .f32) (main_v33 : IVec S_ 1) : IVec S_ 1 :=
  let main_v34 : FVec F S1x128x64x16 .f32 := Host.absf main_arg7
  let main_cst_12 : FVec F S_ .f32 := constant S_ .f32 0x7F800000#32
  let main_v35 : FVec F S1x128x64x16 .f32 := broadcastInDim S1x128x64x16 ![] bcast_S_S1x128x64x16 main_cst_12
  let main_v36 : IVec S1x128x64x16 1 := cmpf .olt main_v34 main_v35
  let main_c_13 : IVec S_ 1 := constantI S_ 1 1#1
  let main_v37 : IVec S_ 1 := (fun x v => Host.reduce IntOp.andi x v reducesTo_S1x128x64x16_S_d0_1_2_3 h_S_) main_v36 main_c_13
  let main_v38 : IVec S_ 1 := andi main_v33 main_v37
  main_v38

def fn_part1 {F : FTy → Type} [FloatOps F] (main_arg4 : FVec F S1x128x64 .f32) (main_arg5 : FVec F S1x128 .f32) (main_arg6 : FVec F S1x128x64x16 .f32) (main_arg7 : FVec F S1x128x64x16 .f32) (main_v13 : IVec S_ 1) (main_v16 : IVec S1x128x64 1) : IVec S_ 1 :=
  let main_c_5 : IVec S_ 1 := constantI S_ 1 1#1
  let main_v17 : IVec S_ 1 := (fun x v => Host.reduce IntOp.andi x v reducesTo_S1x128x64_S_d0_1_2 h_S_) main_v16 main_c_5
  let main_v18 : IVec S_ 1 := andi main_v13 main_v17
  let main_v19 : FVec F S1x128x64 .f32 := Host.absf main_arg4
  let main_cst_6 : FVec F S_ .f32 := constant S_ .f32 0x7F800000#32
  let main_v20 : FVec F S1x128x64 .f32 := broadcastInDim S1x128x64 ![] bcast_S_S1x128x64 main_cst_6
  let main_v21 : IVec S1x128x64 1 := cmpf .olt main_v19 main_v20
  let main_c_7 : IVec S_ 1 := constantI S_ 1 1#1
  let main_v22 : IVec S_ 1 := (fun x v => Host.reduce IntOp.andi x v reducesTo_S1x128x64_S_d0_1_2 h_S_) main_v21 main_c_7
  let main_v23 : IVec S_ 1 := andi main_v18 main_v22
  let main_v24 : FVec F S1x128 .f32 := Host.absf main_arg5
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  let main_v29 : FVec F S1x128x64x16 .f32 := Host.absf main_arg6
  let main_cst_10 : FVec F S_ .f32 := constant S_ .f32 0x7F800000#32
  let main_v30 : FVec F S1x128x64x16 .f32 := broadcastInDim S1x128x64x16 ![] bcast_S_S1x128x64x16 main_cst_10
  let main_v31 : IVec S1x128x64x16 1 := cmpf .olt main_v29 main_v30
  let main_c_11 : IVec S_ 1 := constantI S_ 1 1#1
  let main_v32 : IVec S_ 1 := (fun x v => Host.reduce IntOp.andi x v reducesTo_S1x128x64x16_S_d0_1_2_3 h_S_) main_v31 main_c_11
  let main_v33 : IVec S_ 1 := andi main_v28 main_v32
  fn_part2 (F := F) main_arg7 main_v33

def fn {F : FTy → Type} [FloatOps F] (main_arg0 : FVec F S1152x8x2048 .f32) (main_arg1 : FVec F S1x128x128x64 .f32) (main_arg2 : FVec F S1x128x128x64 .f32) (main_arg3 : FVec F S1x128x64 .f32) (main_arg4 : FVec F S1x128x64 .f32) (main_arg5 : FVec F S1x128 .f32) (main_arg6 : FVec F S1x128x64x16 .f32) (main_arg7 : FVec F S1x128x64x16 .f32) (main_arg8 : FVec F S1x128x16x64 .f32) (main_arg9 : FVec F S1x128x16x64 .f32) (main_arg10 : FVec F S1x128x16 .f32) : IVec S_ 1 :=
  let main_v0 : FVec F S1152x8x2048 .f32 := Host.absf main_arg0
  let main_cst : FVec F S_ .f32 := constant S_ .f32 0x7F800000#32
  let main_v1 : FVec F S1152x8x2048 .f32 := broadcastInDim S1152x8x2048 ![] bcast_S_S1152x8x2048 main_cst
  let main_v2 : IVec S1152x8x2048 1 := cmpf .olt main_v0 main_v1
  let main_c : IVec S_ 1 := constantI S_ 1 1#1
  let main_v3 : IVec S_ 1 := (fun x v => Host.reduce IntOp.andi x v reducesTo_S1152x8x2048_S_d0_1_2 h_S_) main_v2 main_c
  let main_v4 : FVec F S1x128x128x64 .f32 := Host.absf main_arg1
  let main_cst_0 : FVec F S_ .f32 := constant S_ .f32 0x7F800000#32
  let main_v5 : FVec F S1x128x128x64 .f32 := broadcastInDim S1x128x128x64 ![] bcast_S_S1x128x128x64 main_cst_0
  let main_v6 : IVec S1x128x128x64 1 := cmpf .olt main_v4 main_v5
  let main_c_1 : IVec S_ 1 := constantI S_ 1 1#1
  let main_v7 : IVec S_ 1 := (fun x v => Host.reduce IntOp.andi x v reducesTo_S1x128x128x64_S_d0_1_2_3 h_S_) main_v6 main_c_1
  let main_v8 : IVec S_ 1 := andi main_v3 main_v7
  let main_v9 : FVec F S1x128x128x64 .f32 := Host.absf main_arg2
  let main_cst_2 : FVec F S_ .f32 := constant S_ .f32 0x7F800000#32
  let main_v10 : FVec F S1x128x128x64 .f32 := broadcastInDim S1x128x128x64 ![] bcast_S_S1x128x128x64 main_cst_2
  let main_v11 : IVec S1x128x128x64 1 := cmpf .olt main_v9 main_v10
  let main_c_3 : IVec S_ 1 := constantI S_ 1 1#1
  let main_v12 : IVec S_ 1 := (fun x v => Host.reduce IntOp.andi x v reducesTo_S1x128x128x64_S_d0_1_2_3 h_S_) main_v11 main_c_3
  let main_v13 : IVec S_ 1 := andi main_v8 main_v12
  let main_v14 : FVec F S1x128x64 .f32 := Host.absf main_arg3
  let main_cst_4 : FVec F S_ .f32 := constant S_ .f32 0x7F800000#32
  let main_v15 : FVec F S1x128x64 .f32 := broadcastInDim S1x128x64 ![] bcast_S_S1x128x64 main_cst_4
  let main_v16 : IVec S1x128x64 1 := cmpf .olt main_v14 main_v15
  fn_part1 (F := F) main_arg4 main_arg5 main_arg6 main_arg7 main_v13 main_v16
-- ==== Pre_tables_in_range.lean ====
abbrev S44 : Shape := ⟨1, ![44]⟩
abbrev S22528x2048 : Shape := ⟨2, ![22528, 2048]⟩
abbrev S1x8x2048x7168 : Shape := ⟨4, ![1, 8, 2048, 7168]⟩
abbrev S1x8x7168x2048 : Shape := ⟨4, ![1, 8, 7168, 2048]⟩
abbrev S22528 : Shape := ⟨1, ![22528]⟩
abbrev S_ : Shape := ⟨0, ![]⟩

class Facts : Prop where
  bcast_S_S44 : S_.BroadcastsInDim S44 (![] : Fin 0 → Fin S44.rank)

variable [Facts]

def fn {F : FTy → Type} [FloatOps F] (main_arg0 : IVec S44 32) (main_arg1 : IVec S44 32) (main_arg2 : FVec F S22528x2048 .bf16) (main_arg3 : FVec F S1x8x2048x7168 .f32) (main_arg4 : FVec F S1x8x2048x7168 .f32) (main_arg5 : FVec F S1x8x7168x2048 .f32) (main_arg6 : FVec F S22528 .f32) : IVec S44 1 :=
  let main_c : IVec S_ 32 := constantI S_ 32 0#32
  let main_v0 : IVec S44 32 := broadcastInDim S44 ![] bcast_S_S44 main_c
  let main_v1 : IVec S44 1 := cmpi .sge main_arg0 main_v0
  let main_c_0 : IVec S_ 32 := constantI S_ 32 8#32
  let main_v2 : IVec S44 32 := broadcastInDim S44 ![] bcast_S_S44 main_c_0
  let main_v3 : IVec S44 1 := cmpi .slt main_arg0 main_v2
  let main_v4 : IVec S44 1 := andi main_v1 main_v3
  let main_c_1 : IVec S_ 32 := constantI S_ 32 0#32
  let main_v5 : IVec S44 32 := broadcastInDim S44 ![] bcast_S_S44 main_c_1
  let main_v6 : IVec S44 1 := cmpi .sge main_arg1 main_v5
  let main_v7 : IVec S44 1 := andi main_v4 main_v6
  let main_c_2 : IVec S_ 32 := constantI S_ 32 1#32
  let main_v8 : IVec S44 32 := broadcastInDim S44 ![] bcast_S_S44 main_c_2
  let main_v9 : IVec S44 1 := cmpi .sle main_arg1 main_v8
  let main_v10 : IVec S44 1 := andi main_v7 main_v9
  main_v10
-- ==== Kernel.lean ====
abbrev S44 : Shape := ⟨1, ![44]⟩
abbrev S22528x2048 : Shape := ⟨2, ![22528, 2048]⟩
abbrev S1x8x2048x7168 : Shape := ⟨4, ![1, 8, 2048, 7168]⟩
abbrev S1x8x7168x2048 : Shape := ⟨4, ![1, 8, 7168, 2048]⟩
abbrev S22528 : Shape := ⟨1, ![22528]⟩
abbrev S8x2048x7168 : Shape := ⟨3, ![8, 2048, 7168]⟩
abbrev S8x7168x2048 : Shape := ⟨3, ![8, 7168, 2048]⟩
abbrev S22528x1 : Shape := ⟨2, ![22528, 1]⟩
abbrev S512x2048 : Shape := ⟨2, ![512, 2048]⟩
abbrev S1x2048x512 : Shape := ⟨3, ![1, 2048, 512]⟩
abbrev S1 : Shape := ⟨1, ![1]⟩
abbrev S1x512x2048 : Shape := ⟨3, ![1, 512, 2048]⟩
abbrev S512x1 : Shape := ⟨2, ![512, 1]⟩
abbrev S2048x512 : Shape := ⟨2, ![2048, 512]⟩
abbrev S512x512 : Shape := ⟨2, ![512, 512]⟩

abbrev nBuf : Space → Nat
  | .hbm => 13
  | .vmem => 13
  | .smem => 2
  | _ => 0

abbrev bufTy : (tb : Table) → Fin (tcTables nBuf tb) → BufTy
  | .hbm, ⟨0, _⟩ => ⟨S22528x2048, .bf16⟩
  | .hbm, ⟨1, _⟩ => ⟨S1x8x2048x7168, .f32⟩
  | .hbm, ⟨2, _⟩ => ⟨S1x8x2048x7168, .f32⟩
  | .hbm, ⟨3, _⟩ => ⟨S1x8x7168x2048, .f32⟩
  | .hbm, ⟨4, _⟩ => ⟨S22528, .f32⟩
  | .hbm, ⟨5, _⟩ => ⟨S8x2048x7168, .f32⟩
  | .hbm, ⟨6, _⟩ => ⟨S8x2048x7168, .bf16⟩
  | .hbm, ⟨7, _⟩ => ⟨S8x2048x7168, .f32⟩
  | .hbm, ⟨8, _⟩ => ⟨S8x2048x7168, .bf16⟩
  | .hbm, ⟨9, _⟩ => ⟨S8x7168x2048, .f32⟩
  | .hbm, ⟨10, _⟩ => ⟨S8x7168x2048, .bf16⟩
  | .hbm, ⟨11, _⟩ => ⟨S22528x1, .f32⟩
  | .hbm, ⟨12, _⟩ => ⟨S22528x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S512x1, .f32⟩
  | .local _ .vmem, ⟨9, _⟩ => ⟨S512x1, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .smem, ⟨0, _⟩ => ⟨S44, .i32⟩
  | .local _ .smem, ⟨1, _⟩ => ⟨S44, .i32⟩
  | _, _ => ⟨S22528x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![44, 14], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c13_i32 : BitVec 32 := 13#32
  let v8 : BitVec 1 := Scalar.cmpi .eq arg1 c13_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S44.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S44) ![v0.toNat] S1.size (k0_off1_inb i)) numel1_S1
  let v2 : Index := Scalar.indexCast arg0
  let v3 : BitVec 32 := pf.at 1 (Rect.unit (s := S44) ![v2.toNat] S1.size (k0_off1_inb i)) numel1_S1
  let v4 : BitVec 32 := Scalar.muli arg1 v3
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S44.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S44) ![v0.toNat] S1.size (k0_off1_inb i)) numel1_S1
  let v2 : Index := Scalar.indexCast arg0
  let v3 : BitVec 32 := pf.at 1 (Rect.unit (s := S44) ![v2.toNat] S1.size (k0_off1_inb i)) numel1_S1
  let v4 : BitVec 32 := Scalar.muli arg1 v3
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S44.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S44) ![v0.toNat] S1.size (k0_off1_inb i)) numel1_S1
  let v2 : Index := Scalar.indexCast arg0
  let v3 : BitVec 32 := pf.at 1 (Rect.unit (s := S44) ![v2.toNat] S1.size (k0_off1_inb i)) numel1_S1
  let v4 : BitVec 32 := Scalar.muli arg1 v3
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S44 : Shape := ⟨1, ![44]⟩
abbrev S22528x2048 : Shape := ⟨2, ![22528, 2048]⟩
abbrev S1x8x2048x7168 : Shape := ⟨4, ![1, 8, 2048, 7168]⟩
abbrev S1x8x7168x2048 : Shape := ⟨4, ![1, 8, 7168, 2048]⟩
abbrev S22528 : Shape := ⟨1, ![22528]⟩
abbrev S44x1 : Shape := ⟨2, ![44, 1]⟩
abbrev S_ : Shape := ⟨0, ![]⟩
abbrev S44x512 : Shape := ⟨2, ![44, 512]⟩
abbrev S1x8 : Shape := ⟨2, ![1, 8]⟩
abbrev S44x8 : Shape := ⟨2, ![44, 8]⟩
abbrev S44x1x8 : Shape := ⟨3, ![44, 1, 8]⟩
abbrev S44x512x1 : Shape := ⟨3, ![44, 512, 1]⟩
abbrev S44x512x8 : Shape := ⟨3, ![44, 512, 8]⟩
abbrev S22528x8 : Shape := ⟨2, ![22528, 8]⟩
abbrev S8x22528 : Shape := ⟨2, ![8, 22528]⟩
abbrev S8x2048x7168 : Shape := ⟨3, ![8, 2048, 7168]⟩
abbrev S8x7168x22528 : Shape := ⟨3, ![8, 7168, 22528]⟩
abbrev S8x22528x7168 : Shape := ⟨3, ![8, 22528, 7168]⟩
abbrev S8x7168x2048 : Shape := ⟨3, ![8, 7168, 2048]⟩
abbrev S8x22528x2048 : Shape := ⟨3, ![8, 22528, 2048]⟩
abbrev S8x22528x1 : Shape := ⟨3, ![8, 22528, 1]⟩

abbrev nBuf : Space → Nat
  | .hbm => 54
  | .vmem => 0
  | .smem => 0
  | _ => 0

abbrev bufTy : (tb : Table) → Fin (tcTables nBuf tb) → BufTy
  | .hbm, ⟨0, _⟩ => ⟨S44, .i32⟩
  | .hbm, ⟨1, _⟩ => ⟨S44, .i32⟩
  | .hbm, ⟨2, _⟩ => ⟨S22528x2048, .bf16⟩
  | .hbm, ⟨3, _⟩ => ⟨S1x8x2048x7168, .f32⟩
  | .hbm, ⟨4, _⟩ => ⟨S1x8x2048x7168, .f32⟩
  | .hbm, ⟨5, _⟩ => ⟨S1x8x7168x2048, .f32⟩
  | .hbm, ⟨6, _⟩ => ⟨S22528, .f32⟩
  | .hbm, ⟨7, _⟩ => ⟨S22528x2048, .f32⟩
  | .hbm, ⟨8, _⟩ => ⟨S44x1, .i32⟩
  | .hbm, ⟨9, _⟩ => ⟨S_, .i32⟩
  | .hbm, ⟨10, _⟩ => ⟨S44x1, .i32⟩
  | .hbm, ⟨11, _⟩ => ⟨S44x1, .i1⟩
  | .hbm, ⟨12, _⟩ => ⟨S44x512, .f32⟩
  | .hbm, ⟨13, _⟩ => ⟨S_, .f32⟩
  | .hbm, ⟨14, _⟩ => ⟨S_, .f32⟩
  | .hbm, ⟨15, _⟩ => ⟨S44x512, .i1⟩
  | .hbm, ⟨16, _⟩ => ⟨S44x512, .f32⟩
  | .hbm, ⟨17, _⟩ => ⟨S44x512, .f32⟩
  | .hbm, ⟨18, _⟩ => ⟨S44x1, .i32⟩
  | .hbm, ⟨19, _⟩ => ⟨S1x8, .i32⟩
  | .hbm, ⟨20, _⟩ => ⟨S44x8, .i32⟩
  | .hbm, ⟨21, _⟩ => ⟨S44x8, .i32⟩
  | .hbm, ⟨22, _⟩ => ⟨S44x8, .i1⟩
  | .hbm, ⟨23, _⟩ => ⟨S44x8, .f32⟩
  | .hbm, ⟨24, _⟩ => ⟨S44x1x8, .f32⟩
  | .hbm, ⟨25, _⟩ => ⟨S44x512x1, .f32⟩
  | .hbm, ⟨26, _⟩ => ⟨S44x512x8, .f32⟩
  | .hbm, ⟨27, _⟩ => ⟨S44x512x8, .f32⟩
  | .hbm, ⟨28, _⟩ => ⟨S44x512x8, .f32⟩
  | .hbm, ⟨29, _⟩ => ⟨S22528x8, .f32⟩
  | .hbm, ⟨30, _⟩ => ⟨S8x22528, .f32⟩
  | .hbm, ⟨31, _⟩ => ⟨S8x2048x7168, .f32⟩
  | .hbm, ⟨32, _⟩ => ⟨S8x7168x22528, .f32⟩
  | .hbm, ⟨33, _⟩ => ⟨S8x22528x7168, .f32⟩
  | .hbm, ⟨34, _⟩ => ⟨S8x22528x7168, .f32⟩
  | .hbm, ⟨35, _⟩ => ⟨S8x22528x7168, .f32⟩
  | .hbm, ⟨36, _⟩ => ⟨S_, .f32⟩
  | .hbm, ⟨37, _⟩ => ⟨S8x22528x7168, .f32⟩
  | .hbm, ⟨38, _⟩ => ⟨S8x22528x7168, .f32⟩
  | .hbm, ⟨39, _⟩ => ⟨S_, .f32⟩
  | .hbm, ⟨40, _⟩ => ⟨S8x22528x7168, .f32⟩
  | .hbm, ⟨41, _⟩ => ⟨S8x22528x7168, .f32⟩
  | .hbm, ⟨42, _⟩ => ⟨S8x22528x7168, .f32⟩
  | .hbm, ⟨43, _⟩ => ⟨S8x2048x7168, .f32⟩
  | .hbm, ⟨44, _⟩ => ⟨S8x7168x22528, .f32⟩
  | .hbm, ⟨45, _⟩ => ⟨S8x22528x7168, .f32⟩
  | .hbm, ⟨46, _⟩ => ⟨S8x22528x7168, .f32⟩
  | .hbm, ⟨47, _⟩ => ⟨S8x7168x2048, .f32⟩
  | .hbm, ⟨48, _⟩ => ⟨S8x22528x2048, .f32⟩
  | .hbm, ⟨49, _⟩ => ⟨S8x22528x1, .f32⟩
  | .hbm, ⟨50, _⟩ => ⟨S8x22528x2048, .f32⟩
  | .hbm, ⟨51, _⟩ => ⟨S8x22528x2048, .f32⟩
  | .hbm, ⟨52, _⟩ => ⟨S_, .f32⟩
  | .hbm, ⟨53, _⟩ => ⟨S22528x2048, .f32⟩
  | _, _ => ⟨S44, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v5 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_call2_v0 : Ref sig .tc := ⟨.hbm, 34, rfl⟩
abbrev main_call2_v1 : Ref sig .tc := ⟨.hbm, 35, rfl⟩
abbrev main_call2_cst : Ref sig .tc := ⟨.hbm, 36, rfl⟩
abbrev main_call2_v2 : Ref sig .tc := ⟨.hbm, 37, rfl⟩
abbrev main_call2_v3 : Ref sig .tc := ⟨.hbm, 38, rfl⟩
abbrev main_call2_cst_0 : Ref sig .tc := ⟨.hbm, 39, rfl⟩
abbrev main_call2_v4 : Ref sig .tc := ⟨.hbm, 40, rfl⟩
abbrev main_call2_v5 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_0 : Ref sig .tc := ⟨.hbm, 52, rfl⟩
abbrev main_v27 : Ref sig .tc := ⟨.hbm, 53, rfl⟩

abbrev nD : Nat := 1
abbrev τ : Topo := Topo.v7x

variable {F : FTy → Type} [FloatOps F]
-- ==== Kernel2.lean ====
abbrev S1x8192x2048 : Shape := ⟨3, ![1, 8192, 2048]⟩
abbrev S128x8x2048 : Shape := ⟨3, ![128, 8, 2048]⟩
abbrev S1x2048x3072 : Shape := ⟨3, ![1, 2048, 3072]⟩
abbrev S8192x2048 : Shape := ⟨2, ![8192, 2048]⟩
abbrev S1024x2048 : Shape := ⟨2, ![1024, 2048]⟩
abbrev S9216x2048 : Shape := ⟨2, ![9216, 2048]⟩
abbrev S2048x3072 : Shape := ⟨2, ![2048, 3072]⟩
abbrev S9216x3072 : Shape := ⟨2, ![9216, 3072]⟩
abbrev S2048x512 : Shape := ⟨2, ![2048, 512]⟩
abbrev S1024x512 : Shape := ⟨2, ![1024, 512]⟩
abbrev S9216x512 : Shape := ⟨2, ![9216, 512]⟩
abbrev S8192x512 : Shape := ⟨2, ![8192, 512]⟩
abbrev S1x1x8192x4x128 : Shape := ⟨5, ![1, 1, 8192, 4, 128]⟩
abbrev S1x128x8x4x128 : Shape := ⟨5, ![1, 128, 8, 4, 128]⟩

abbrev nBuf : Space → Nat
  | .hbm => 21
  | .vmem => 8
  | .smem => 0
  | _ => 0

abbrev bufTy : (tb : Table) → Fin (tcTables nBuf tb) → BufTy
  | .hbm, ⟨0, _⟩ => ⟨S1x8192x2048, .f32⟩
  | .hbm, ⟨1, _⟩ => ⟨S128x8x2048, .f32⟩
  | .hbm, ⟨2, _⟩ => ⟨S1x2048x3072, .f32⟩
  | .hbm, ⟨3, _⟩ => ⟨S8192x2048, .f32⟩
  | .hbm, ⟨4, _⟩ => ⟨S1024x2048, .f32⟩
  | .hbm, ⟨5, _⟩ => ⟨S9216x2048, .f32⟩
  | .hbm, ⟨6, _⟩ => ⟨S9216x2048, .bf16⟩
  | .hbm, ⟨7, _⟩ => ⟨S2048x3072, .f32⟩
  | .hbm, ⟨8, _⟩ => ⟨S2048x3072, .bf16⟩
  | .hbm, ⟨9, _⟩ => ⟨S9216x3072, .f32⟩
  | .hbm, ⟨10, _⟩ => ⟨S9216x3072, .bf16⟩
  | .hbm, ⟨11, _⟩ => ⟨S9216x512, .f32⟩
  | .hbm, ⟨12, _⟩ => ⟨S9216x512, .f32⟩
  | .hbm, ⟨13, _⟩ => ⟨S8192x512, .f32⟩
  | .hbm, ⟨14, _⟩ => ⟨S1x1x8192x4x128, .f32⟩
  | .hbm, ⟨15, _⟩ => ⟨S8192x512, .f32⟩
  | .hbm, ⟨16, _⟩ => ⟨S1x1x8192x4x128, .f32⟩
  | .hbm, ⟨17, _⟩ => ⟨S1024x512, .f32⟩
  | .hbm, ⟨18, _⟩ => ⟨S1x128x8x4x128, .f32⟩
  | .hbm, ⟨19, _⟩ => ⟨S1024x512, .f32⟩
  | .hbm, ⟨20, _⟩ => ⟨S1x128x8x4x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![9, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S1x8192x2048 : Shape := ⟨3, ![1, 8192, 2048]⟩
abbrev S128x8x2048 : Shape := ⟨3, ![128, 8, 2048]⟩
abbrev S1x2048x3072 : Shape := ⟨3, ![1, 2048, 3072]⟩
abbrev S2048x3072 : Shape := ⟨2, ![2048, 3072]⟩
abbrev S1x8192x3072 : Shape := ⟨3, ![1, 8192, 3072]⟩
abbrev S1x8192x512 : Shape := ⟨3, ![1, 8192, 512]⟩
abbrev S1x1x8192x4x128 : Shape := ⟨5, ![1, 1, 8192, 4, 128]⟩
abbrev S_ : Shape := ⟨0, ![]⟩
abbrev S1x8192x1024 : Shape := ⟨3, ![1, 8192, 1024]⟩
abbrev S8192x3072 : Shape := ⟨2, ![8192, 3072]⟩
abbrev S128x8x3072 : Shape := ⟨3, ![128, 8, 3072]⟩
abbrev S128x8x512 : Shape := ⟨3, ![128, 8, 512]⟩
abbrev S1x128x8x4x128 : Shape := ⟨5, ![1, 128, 8, 4, 128]⟩
abbrev S128x8x1024 : Shape := ⟨3, ![128, 8, 1024]⟩
abbrev S1024x3072 : Shape := ⟨2, ![1024, 3072]⟩
abbrev S9216x3072 : Shape := ⟨2, ![9216, 3072]⟩

abbrev nBuf : Space → Nat
  | .hbm => 31
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S128x8x2048, .f32⟩
  | .hbm, ⟨2, _⟩ => ⟨S1x2048x3072, .f32⟩
  | .hbm, ⟨3, _⟩ => ⟨S2048x3072, .f32⟩
  | .hbm, ⟨4, _⟩ => ⟨S1x8192x3072, .f32⟩
  | .hbm, ⟨5, _⟩ => ⟨S1x8192x512, .f32⟩
  | .hbm, ⟨6, _⟩ => ⟨S1x1x8192x4x128, .f32⟩
  | .hbm, ⟨7, _⟩ => ⟨S1x8192x512, .f32⟩
  | .hbm, ⟨8, _⟩ => ⟨S1x1x8192x4x128, .f32⟩
  | .hbm, ⟨9, _⟩ => ⟨S1x8192x2048, .f32⟩
  | .hbm, ⟨10, _⟩ => ⟨S_, .f32⟩
  | .hbm, ⟨11, _⟩ => ⟨S1x8192x2048, .f32⟩
  | .hbm, ⟨12, _⟩ => ⟨S1x8192x2048, .f32⟩
  | .hbm, ⟨13, _⟩ => ⟨S1x8192x1024, .f32⟩
  | .hbm, ⟨14, _⟩ => ⟨S1x8192x3072, .f32⟩
  | .hbm, ⟨15, _⟩ => ⟨S8192x3072, .f32⟩
  | .hbm, ⟨16, _⟩ => ⟨S2048x3072, .f32⟩
  | .hbm, ⟨17, _⟩ => ⟨S128x8x3072, .f32⟩
  | .hbm, ⟨18, _⟩ => ⟨S128x8x512, .f32⟩
  | .hbm, ⟨19, _⟩ => ⟨S1x128x8x4x128, .f32⟩
  | .hbm, ⟨20, _⟩ => ⟨S128x8x512, .f32⟩
  | .hbm, ⟨21, _⟩ => ⟨S1x128x8x4x128, .f32⟩
  | .hbm, ⟨22, _⟩ => ⟨S128x8x2048, .f32⟩
  | .hbm, ⟨23, _⟩ => ⟨S_, .f32⟩
  | .hbm, ⟨24, _⟩ => ⟨S128x8x2048, .f32⟩
  | .hbm, ⟨25, _⟩ => ⟨S128x8x2048, .f32⟩
  | .hbm, ⟨26, _⟩ => ⟨S128x8x1024, .f32⟩
  | .hbm, ⟨27, _⟩ => ⟨S128x8x3072, .f32⟩
  | .hbm, ⟨28, _⟩ => ⟨S1024x3072, .f32⟩
  | .hbm, ⟨29, _⟩ => ⟨S9216x3072, .f32⟩
  | .hbm, ⟨30, _⟩ => ⟨S9216x3072, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩

abbrev nD : Nat := 1
abbrev τ : Topo := Topo.v7x

variable {F : FTy → Type} [FloatOps F]
-- ==== Kernel3.lean ====
abbrev S9216x2048 : Shape := ⟨2, ![9216, 2048]⟩
abbrev S22528x2048 : Shape := ⟨2, ![22528, 2048]⟩
abbrev S18432 : Shape := ⟨1, ![18432]⟩
abbrev S2x2x2048 : Shape := ⟨3, ![2, 2, 2048]⟩
abbrev S_ : Shape := ⟨0, ![]⟩
abbrev S18432x1 : Shape := ⟨2, ![18432, 1]⟩
abbrev S1 : Shape := ⟨1, ![1]⟩
abbrev S1x1 : Shape := ⟨2, ![1, 1]⟩
abbrev S18432x2048 : Shape := ⟨2, ![18432, 2048]⟩
abbrev S9216x4096 : Shape := ⟨2, ![9216, 4096]⟩
abbrev S1x1x2048 : Shape := ⟨3, ![1, 1, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S8192x2048 : Shape := ⟨2, ![8192, 2048]⟩
abbrev S1x8192x2048 : Shape := ⟨3, ![1, 8192, 2048]⟩
abbrev S1024x2048 : Shape := ⟨2, ![1024, 2048]⟩
abbrev S128x8x2048 : Shape := ⟨3, ![128, 8, 2048]⟩

abbrev nBuf : Space → Nat
  | .hbm => 40
  | .vmem => 10
  | .smem => 0
  | _ => 0

abbrev bufTy : (tb : Table) → Fin (tcTables nBuf tb) → BufTy
  | .hbm, ⟨0, _⟩ => ⟨S9216x2048, .f32⟩
  | .hbm, ⟨1, _⟩ => ⟨S22528x2048, .f32⟩
  | .hbm, ⟨2, _⟩ => ⟨S18432, .i32⟩
  | .hbm, ⟨3, _⟩ => ⟨S2x2x2048, .f32⟩
  | .hbm, ⟨4, _⟩ => ⟨S2x2x2048, .f32⟩
  | .hbm, ⟨5, _⟩ => ⟨S_, .i32⟩
  | .hbm, ⟨6, _⟩ => ⟨S18432, .i32⟩
  | .hbm, ⟨7, _⟩ => ⟨S18432, .i1⟩
  | .hbm, ⟨8, _⟩ => ⟨S_, .i32⟩
  | .hbm, ⟨9, _⟩ => ⟨S18432, .i32⟩
  | .hbm, ⟨10, _⟩ => ⟨S18432, .i32⟩
  | .hbm, ⟨11, _⟩ => ⟨S18432, .i32⟩
  | .hbm, ⟨12, _⟩ => ⟨S18432x1, .i32⟩
  | .hbm, ⟨13, _⟩ => ⟨S1, .i32⟩
  | .hbm, ⟨14, _⟩ => ⟨S_, .i32⟩
  | .hbm, ⟨15, _⟩ => ⟨S18432x1, .i32⟩
  | .hbm, ⟨16, _⟩ => ⟨S18432x1, .i1⟩
  | .hbm, ⟨17, _⟩ => ⟨S1x1, .i32⟩
  | .hbm, ⟨18, _⟩ => ⟨S18432x1, .i32⟩
  | .hbm, ⟨19, _⟩ => ⟨S18432x1, .i1⟩
  | .hbm, ⟨20, _⟩ => ⟨S18432x1, .i1⟩
  | .hbm, ⟨21, _⟩ => ⟨S_, .i1⟩
  | .hbm, ⟨22, _⟩ => ⟨S18432, .i1⟩
  | .hbm, ⟨23, _⟩ => ⟨S18432x2048, .f32⟩
  | .hbm, ⟨24, _⟩ => ⟨S18432x2048, .i1⟩
  | .hbm, ⟨25, _⟩ => ⟨S_, .f32⟩
  | .hbm, ⟨26, _⟩ => ⟨S18432x2048, .f32⟩
  | .hbm, ⟨27, _⟩ => ⟨S18432x2048, .f32⟩
  | .hbm, ⟨28, _⟩ => ⟨S9216x4096, .f32⟩
  | .hbm, ⟨29, _⟩ => ⟨S1x1x2048, .f32⟩
  | .hbm, ⟨30, _⟩ => ⟨S2048, .f32⟩
  | .hbm, ⟨31, _⟩ => ⟨S1x1x2048, .f32⟩
  | .hbm, ⟨32, _⟩ => ⟨S2048, .f32⟩
  | .hbm, ⟨33, _⟩ => ⟨S1x2048, .f32⟩
  | .hbm, ⟨34, _⟩ => ⟨S1x2048, .f32⟩
  | .hbm, ⟨35, _⟩ => ⟨S9216x2048, .f32⟩
  | .hbm, ⟨36, _⟩ => ⟨S8192x2048, .f32⟩
  | .hbm, ⟨37, _⟩ => ⟨S1x8192x2048, .f32⟩
  | .hbm, ⟨38, _⟩ => ⟨S1024x2048, .f32⟩
  | .hbm, ⟨39, _⟩ => ⟨S128x8x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S9216x2048 : Shape := ⟨2, ![9216, 2048]⟩
abbrev S22528x2048 : Shape := ⟨2, ![22528, 2048]⟩
abbrev S18432 : Shape := ⟨1, ![18432]⟩
abbrev S2x2x2048 : Shape := ⟨3, ![2, 2, 2048]⟩
abbrev S_ : Shape := ⟨0, ![]⟩
abbrev S18432x1 : Shape := ⟨2, ![18432, 1]⟩
abbrev S1 : Shape := ⟨1, ![1]⟩
abbrev S1x1 : Shape := ⟨2, ![1, 1]⟩
abbrev S18432x2048 : Shape := ⟨2, ![18432, 2048]⟩
abbrev S9216x2x2048 : Shape := ⟨3, ![9216, 2, 2048]⟩
abbrev S9216 : Shape := ⟨1, ![9216]⟩
abbrev S9216x1 : Shape := ⟨2, ![9216, 1]⟩
abbrev S1x1x2048 : Shape := ⟨3, ![1, 1, 2048]⟩
abbrev S2048 : Shape := ⟨1, ![2048]⟩
abbrev S1x2048 : Shape := ⟨2, ![1, 2048]⟩
abbrev S8192x2048 : Shape := ⟨2, ![8192, 2048]⟩
abbrev S1x8192x2048 : Shape := ⟨3, ![1, 8192, 2048]⟩
abbrev S1024x2048 : Shape := ⟨2, ![1024, 2048]⟩
abbrev S128x8x2048 : Shape := ⟨3, ![128, 8, 2048]⟩

abbrev nBuf : Space → Nat
  | .hbm => 70
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S22528x2048, .f32⟩
  | .hbm, ⟨2, _⟩ => ⟨S18432, .i32⟩
  | .hbm, ⟨3, _⟩ => ⟨S2x2x2048, .f32⟩
  | .hbm, ⟨4, _⟩ => ⟨S2x2x2048, .f32⟩
  | .hbm, ⟨5, _⟩ => ⟨S_, .i32⟩
  | .hbm, ⟨6, _⟩ => ⟨S18432, .i32⟩
  | .hbm, ⟨7, _⟩ => ⟨S18432, .i1⟩
  | .hbm, ⟨8, _⟩ => ⟨S_, .i32⟩
  | .hbm, ⟨9, _⟩ => ⟨S18432, .i32⟩
  | .hbm, ⟨10, _⟩ => ⟨S18432, .i32⟩
  | .hbm, ⟨11, _⟩ => ⟨S18432, .i32⟩
  | .hbm, ⟨12, _⟩ => ⟨S18432x1, .i32⟩
  | .hbm, ⟨13, _⟩ => ⟨S1, .i32⟩
  | .hbm, ⟨14, _⟩ => ⟨S_, .i32⟩
  | .hbm, ⟨15, _⟩ => ⟨S18432x1, .i32⟩
  | .hbm, ⟨16, _⟩ => ⟨S18432x1, .i1⟩
  | .hbm, ⟨17, _⟩ => ⟨S1x1, .i32⟩
  | .hbm, ⟨18, _⟩ => ⟨S18432x1, .i32⟩
  | .hbm, ⟨19, _⟩ => ⟨S18432x1, .i1⟩
  | .hbm, ⟨20, _⟩ => ⟨S18432x1, .i1⟩
  | .hbm, ⟨21, _⟩ => ⟨S_, .i1⟩
  | .hbm, ⟨22, _⟩ => ⟨S18432, .i1⟩
  | .hbm, ⟨23, _⟩ => ⟨S18432x2048, .f32⟩
  | .hbm, ⟨24, _⟩ => ⟨S18432x2048, .i1⟩
  | .hbm, ⟨25, _⟩ => ⟨S_, .f32⟩
  | .hbm, ⟨26, _⟩ => ⟨S18432x2048, .f32⟩
  | .hbm, ⟨27, _⟩ => ⟨S18432x2048, .f32⟩
  | .hbm, ⟨28, _⟩ => ⟨S9216x2x2048, .f32⟩
  | .hbm, ⟨29, _⟩ => ⟨S_, .f32⟩
  | .hbm, ⟨30, _⟩ => ⟨S9216x2048, .f32⟩
  | .hbm, ⟨31, _⟩ => ⟨S9216x2048, .f32⟩
  | .hbm, ⟨32, _⟩ => ⟨S_, .f32⟩
  | .hbm, ⟨33, _⟩ => ⟨S9216x2048, .f32⟩
  | .hbm, ⟨34, _⟩ => ⟨S9216x2048, .f32⟩
  | .hbm, ⟨35, _⟩ => ⟨S_, .f32⟩
  | .hbm, ⟨36, _⟩ => ⟨S9216, .f32⟩
  | .hbm, ⟨37, _⟩ => ⟨S9216x1, .f32⟩
  | .hbm, ⟨38, _⟩ => ⟨S_, .f32⟩
  | .hbm, ⟨39, _⟩ => ⟨S9216x1, .f32⟩
  | .hbm, ⟨40, _⟩ => ⟨S9216x1, .f32⟩
  | .hbm, ⟨41, _⟩ => ⟨S9216x2048, .f32⟩
  | .hbm, ⟨42, _⟩ => ⟨S9216x2048, .f32⟩
  | .hbm, ⟨43, _⟩ => ⟨S9216x2048, .f32⟩
  | .hbm, ⟨44, _⟩ => ⟨S_, .f32⟩
  | .hbm, ⟨45, _⟩ => ⟨S9216, .f32⟩
  | .hbm, ⟨46, _⟩ => ⟨S9216x1, .f32⟩
  | .hbm, ⟨47, _⟩ => ⟨S_, .f32⟩
  | .hbm, ⟨48, _⟩ => ⟨S9216x1, .f32⟩
  | .hbm, ⟨49, _⟩ => ⟨S9216x1, .f32⟩
  | .hbm, ⟨50, _⟩ => ⟨S_, .f32⟩
  | .hbm, ⟨51, _⟩ => ⟨S9216x1, .f32⟩
  | .hbm, ⟨52, _⟩ => ⟨S9216x1, .f32⟩
  | .hbm, ⟨53, _⟩ => ⟨S9216x1, .f32⟩
  | .hbm, ⟨54, _⟩ => ⟨S9216x2048, .f32⟩
  | .hbm, ⟨55, _⟩ => ⟨S9216x2048, .f32⟩
  | .hbm, ⟨56, _⟩ => ⟨S1x1x2048, .f32⟩
  | .hbm, ⟨57, _⟩ => ⟨S2048, .f32⟩
  | .hbm, ⟨58, _⟩ => ⟨S1x2048, .f32⟩
  | .hbm, ⟨59, _⟩ => ⟨S9216x2048, .f32⟩
  | .hbm, ⟨60, _⟩ => ⟨S9216x2048, .f32⟩
  | .hbm, ⟨61, _⟩ => ⟨S1x1x2048, .f32⟩
  | .hbm, ⟨62, _⟩ => ⟨S2048, .f32⟩
  | .hbm, ⟨63, _⟩ => ⟨S1x2048, .f32⟩
  | .hbm, ⟨64, _⟩ => ⟨S9216x2048, .f32⟩
  | .hbm, ⟨65, _⟩ => ⟨S9216x2048, .f32⟩
  | .hbm, ⟨66, _⟩ => ⟨S8192x2048, .f32⟩
  | .hbm, ⟨67, _⟩ => ⟨S1x8192x2048, .f32⟩
  | .hbm, ⟨68, _⟩ => ⟨S1024x2048, .f32⟩
  | .hbm, ⟨69, _⟩ => ⟨S128x8x2048, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_v1 : Ref sig .tc := ⟨.hbm, 28, rfl⟩
abbrev main_cst : Ref sig .tc := ⟨.hbm, 29, rfl⟩
abbrev main_v2 : Ref sig .tc := ⟨.hbm, 30, rfl⟩
abbrev main_v3 : Ref sig .tc := ⟨.hbm, 31, rfl⟩
abbrev main_cst_0 : Ref sig .tc := ⟨.hbm, 32, rfl⟩
abbrev main_v4 : Ref sig .tc := ⟨.hbm, 33, rfl⟩
abbrev main_v5 : Ref sig .tc := ⟨.hbm, 34, rfl⟩
abbrev main_cst_1 : Ref sig .tc := ⟨.hbm, 35, rfl⟩
abbrev main_v6 : Ref sig .tc := ⟨.hbm, 36, rfl⟩
abbrev main_v7 : Ref sig .tc := ⟨.hbm, 37, rfl⟩
abbrev main_cst_2 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_cst_3 : Ref sig .tc := ⟨.hbm, 44, rfl⟩
abbrev main_v13 : Ref sig .tc := ⟨.hbm, 45, rfl⟩
abbrev main_v14 : Ref sig .tc := ⟨.hbm, 46, rfl⟩
abbrev main_cst_4 : Ref sig .tc := ⟨.hbm, 47, rfl⟩
abbrev main_v15 : Ref sig .tc := ⟨.hbm, 48, rfl⟩
abbrev main_v16 : Ref sig .tc := ⟨.hbm, 49, rfl⟩
abbrev main_cst_5 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩

abbrev nD : Nat := 1
abbrev τ : Topo := Topo.v7x

variable {F : FTy → Type} [FloatOps F]
-- ==== Kernel4.lean ====
abbrev S1152x8x2048 : Shape := ⟨3, ![1152, 8, 2048]⟩
abbrev S1x128x128x64 : Shape := ⟨4, ![1, 128, 128, 64]⟩
abbrev S1x128x64 : Shape := ⟨3, ![1, 128, 64]⟩
abbrev S1x128 : Shape := ⟨2, ![1, 128]⟩
abbrev S1x128x64x16 : Shape := ⟨4, ![1, 128, 64, 16]⟩
abbrev S1x128x16x64 : Shape := ⟨4, ![1, 128, 16, 64]⟩
abbrev S1x128x16 : Shape := ⟨3, ![1, 128, 16]⟩
abbrev S128x64 : Shape := ⟨2, ![128, 64]⟩
abbrev S128 : Shape := ⟨1, ![128]⟩
abbrev S128x64x16 : Shape := ⟨3, ![128, 64, 16]⟩
abbrev S128x16x64 : Shape := ⟨3, ![128, 16, 64]⟩
abbrev S_ : Shape := ⟨0, ![]⟩
abbrev S128x1 : Shape := ⟨2, ![128, 1]⟩
abbrev S128x64x1 : Shape := ⟨3, ![128, 64, 1]⟩
abbrev S9x128x64 : Shape := ⟨3, ![9, 128, 64]⟩
abbrev S8x128x64 : Shape := ⟨3, ![8, 128, 64]⟩
abbrev S8x128x64x1 : Shape := ⟨4, ![8, 128, 64, 1]⟩
abbrev S8x128x64x16 : Shape := ⟨4, ![8, 128, 64, 16]⟩
abbrev S128x8x16x16 : Shape := ⟨4, ![128, 8, 16, 16]⟩
abbrev S8x128x16x16 : Shape := ⟨4, ![8, 128, 16, 16]⟩
abbrev S8x8 : Shape := ⟨2, ![8, 8]⟩
abbrev S8x16x8x16x16 : Shape := ⟨5, ![8, 16, 8, 16, 16]⟩
abbrev S8x16x8x16x1x16 : Shape := ⟨6, ![8, 16, 8, 16, 1, 16]⟩
abbrev S1x1x8x1x8x1 : Shape := ⟨6, ![1, 1, 8, 1, 8, 1]⟩
abbrev S8x16x8x16x8x16 : Shape := ⟨6, ![8, 16, 8, 16, 8, 16]⟩
abbrev S8x16x128x128 : Shape := ⟨4, ![8, 16, 128, 128]⟩
abbrev S16x8x128x128 : Shape := ⟨4, ![16, 8, 128, 128]⟩
abbrev S8x128x16x64 : Shape := ⟨4, ![8, 128, 16, 64]⟩
abbrev S8x16x8x16x64 : Shape := ⟨5, ![8, 16, 8, 16, 64]⟩
abbrev S8x16x8x16x1x64 : Shape := ⟨6, ![8, 16, 8, 16, 1, 64]⟩
abbrev S8x16x8x16x8x64 : Shape := ⟨6, ![8, 16, 8, 16, 8, 64]⟩
abbrev S8x16x128x512 : Shape := ⟨4, ![8, 16, 128, 512]⟩
abbrev S16x8x128x512 : Shape := ⟨4, ![16, 8, 128, 512]⟩
abbrev S8x128x1x64 : Shape := ⟨4, ![8, 128, 1, 64]⟩
abbrev S8x16x8x64x16 : Shape := ⟨5, ![8, 16, 8, 64, 16]⟩
abbrev S8x16x8x64x1x16 : Shape := ⟨6, ![8, 16, 8, 64, 1, 16]⟩
abbrev S8x16x8x64x8x16 : Shape := ⟨6, ![8, 16, 8, 64, 8, 16]⟩
abbrev S8x16x512x128 : Shape := ⟨4, ![8, 16, 512, 128]⟩
abbrev S16x8x512x128 : Shape := ⟨4, ![16, 8, 512, 128]⟩
abbrev S1x8192 : Shape := ⟨2, ![1, 8192]⟩
abbrev S128x16 : Shape := ⟨2, ![128, 16]⟩
abbrev S128x128x64 : Shape := ⟨3, ![128, 128, 64]⟩
abbrev S128x8192 : Shape := ⟨2, ![128, 8192]⟩
abbrev S1x2048 : Shape := ⟨2, ![1, 2048]⟩
abbrev S128x8x2048 : Shape := ⟨3, ![128, 8, 2048]⟩
abbrev S128x8x128 : Shape := ⟨3, ![128, 8, 128]⟩
abbrev S1x8x128x128 : Shape := ⟨4, ![1, 8, 128, 128]⟩
abbrev S1x8x128x512 : Shape := ⟨4, ![1, 8, 128, 512]⟩
abbrev S1x8x512x128 : Shape := ⟨4, ![1, 8, 512, 128]⟩
abbrev S1x512 : Shape := ⟨2, ![1, 512]⟩
abbrev S128x512 : Shape := ⟨2, ![128, 512]⟩
abbrev S128x1x128 : Shape := ⟨3, ![128, 1, 128]⟩
abbrev S128x128 : Shape := ⟨2, ![128, 128]⟩
abbrev S1x1x128x512 : Shape := ⟨4, ![1, 1, 128, 512]⟩
abbrev S1x1x512x128 : Shape := ⟨4, ![1, 1, 512, 128]⟩
abbrev S512x128 : Shape := ⟨2, ![512, 128]⟩
abbrev S1x1x128x128 : Shape := ⟨4, ![1, 1, 128, 128]⟩

abbrev nBuf : Space → Nat
  | .hbm => 263
  | .vmem => 28
  | .smem => 0
  | _ => 0

abbrev hbmTy0_0 (i : Nat) : BufTy := match i % 128 with
  | 0 => ⟨S1152x8x2048, .f32⟩
  | 1 => ⟨S1x128x128x64, .f32⟩
  | 2 => ⟨S1x128x128x64, .f32⟩
  | 3 => ⟨S1x128x64, .f32⟩
  | 4 => ⟨S1x128x64, .f32⟩
  | 5 => ⟨S1x128, .f32⟩
  | 6 => ⟨S1x128x64x16, .f32⟩
  | 7 => ⟨S1x128x64x16, .f32⟩
  | 8 => ⟨S1x128x16x64, .f32⟩
  | 9 => ⟨S1x128x16x64, .f32⟩
  | 10 => ⟨S1x128x16, .f32⟩
  | 11 => ⟨S128x64, .f32⟩
  | 12 => ⟨S128x64, .f32⟩
  | 13 => ⟨S128, .f32⟩
  | 14 => ⟨S128x64x16, .f32⟩
  | 15 => ⟨S128x64x16, .f32⟩
  | 16 => ⟨S128x16x64, .f32⟩
  | 17 => ⟨S128x16x64, .f32⟩
  | 18 => ⟨S_, .f32⟩
  | 19 => ⟨S128x64, .f32⟩
  | 20 => ⟨S128x64, .f32⟩
  | 21 => ⟨S128, .f32⟩
  | 22 => ⟨S128x1, .f32⟩
  | 23 => ⟨S128x64, .f32⟩
  | 24 => ⟨S128x64, .f32⟩
  | 25 => ⟨S128x64, .f32⟩
  | 26 => ⟨S128x64, .f32⟩
  | 27 => ⟨S128x64, .f32⟩
  | 28 => ⟨S128x64, .f32⟩
  | 29 => ⟨S128x64, .f32⟩
  | 30 => ⟨S128x64, .f32⟩
  | 31 => ⟨S128x64, .f32⟩
  | 32 => ⟨S128x64, .f32⟩
  | 33 => ⟨S128x64, .f32⟩
  | 34 => ⟨S_, .f32⟩
  | 35 => ⟨S128x64, .f32⟩
  | 36 => ⟨S128x64, .f32⟩
  | 37 => ⟨S128x64, .f32⟩
  | 38 => ⟨S128x64, .f32⟩
  | 39 => ⟨S128x64, .f32⟩
  | 40 => ⟨S128x64, .f32⟩
  | 41 => ⟨S128x64, .f32⟩
  | 42 => ⟨S128x64, .f32⟩
  | 43 => ⟨S128x64, .f32⟩
  | 44 => ⟨S128x64, .f32⟩
  | 45 => ⟨S128x64, .f32⟩
  | 46 => ⟨S128x64, .f32⟩
  | 47 => ⟨S128x64, .f32⟩
  | 48 => ⟨S128x64x1, .f32⟩
  | 49 => ⟨S128x64x16, .f32⟩
  | 50 => ⟨S128x64x16, .f32⟩
  | 51 => ⟨S128x64x1, .f32⟩
  | 52 => ⟨S128x64x16, .f32⟩
  | 53 => ⟨S128x64x16, .f32⟩
  | 54 => ⟨S128x64x16, .f32⟩
  | 55 => ⟨S128x64x1, .f32⟩
  | 56 => ⟨S128x64x16, .f32⟩
  | 57 => ⟨S128x64x16, .f32⟩
  | 58 => ⟨S128x64x1, .f32⟩
  | 59 => ⟨S128x64x16, .f32⟩
  | 60 => ⟨S128x64x16, .f32⟩
  | 61 => ⟨S128x64x16, .f32⟩
  | 62 => ⟨S_, .f32⟩
  | 63 => ⟨S128x64, .f32⟩
  | 64 => ⟨S_, .f32⟩
  | 65 => ⟨S128x64, .f32⟩
  | 66 => ⟨S128x64, .f32⟩
  | 67 => ⟨S128x64, .f32⟩
  | 68 => ⟨S128x64, .f32⟩
  | 69 => ⟨S128x64, .f32⟩
  | 70 => ⟨S128x64, .f32⟩
  | 71 => ⟨S128x64, .f32⟩
  | 72 => ⟨S128x64, .f32⟩
  | 73 => ⟨S128x64, .f32⟩
  | 74 => ⟨S128x64, .f32⟩
  | 75 => ⟨S128x64, .f32⟩
  | 76 => ⟨S128x64, .f32⟩
  | 77 => ⟨S128x64, .f32⟩
  | 78 => ⟨S128x64, .f32⟩
  | 79 => ⟨S128x64, .f32⟩
  | 80 => ⟨S128x64, .f32⟩
  | 81 => ⟨S128x64, .f32⟩
  | 82 => ⟨S128x64, .f32⟩
  | 83 => ⟨S128x64, .f32⟩
  | 84 => ⟨S128x64, .f32⟩
  | 85 => ⟨S128x64, .f32⟩
  | 86 => ⟨S128x64, .f32⟩
  | 87 => ⟨S128x64, .f32⟩
  | 88 => ⟨S128x64, .f32⟩
  | 89 => ⟨S128x64, .f32⟩
  | 90 => ⟨S128x64, .f32⟩
  | 91 => ⟨S128x64, .f32⟩
  | 92 => ⟨S128x64, .f32⟩
  | 93 => ⟨S128x64, .f32⟩
  | 94 => ⟨S128x64, .f32⟩
  | 95 => ⟨S128x64, .f32⟩
  | 96 => ⟨S128x64, .f32⟩
  | 97 => ⟨S128x64, .f32⟩
  | 98 => ⟨S128x64, .f32⟩
  | 99 => ⟨S128x64, .f32⟩
  | 100 => ⟨S128x64, .f32⟩
  | 101 => ⟨S128x64, .f32⟩
  | 102 => ⟨S128x64, .f32⟩
  | 103 => ⟨S128x64, .f32⟩
  | 104 => ⟨S128x64, .f32⟩
  | 105 => ⟨S128x64, .f32⟩
  | 106 => ⟨S128x64, .f32⟩
  | 107 => ⟨S128x64, .f32⟩
  | 108 => ⟨S128x64, .f32⟩
  | 109 => ⟨S128x64, .f32⟩
  | 110 => ⟨S128x64, .f32⟩
  | 111 => ⟨S128x64, .f32⟩
  | 112 => ⟨S128x64, .f32⟩
  | 113 => ⟨S128x64, .f32⟩
  | 114 => ⟨S1x128x64, .f32⟩
  | 115 => ⟨S1x128x64, .f32⟩
  | 116 => ⟨S1x128x64, .f32⟩
  | 117 => ⟨S1x128x64, .f32⟩
  | 118 => ⟨S1x128x64, .f32⟩
  | 119 => ⟨S1x128x64, .f32⟩
  | 120 => ⟨S1x128x64, .f32⟩
  | 121 => ⟨S1x128x64, .f32⟩
  | 122 => ⟨S1x128x64, .f32⟩
  | 123 => ⟨S9x128x64, .f32⟩
  | 124 => ⟨S1x128x64, .f32⟩
  | 125 => ⟨S1x128x64, .f32⟩
  | 126 => ⟨S1x128x64, .f32⟩
  | 127 => ⟨S1x128x64, .f32⟩
  | _ => ⟨S1152x8x2048, .f32⟩

abbrev hbmTy0_1 (i : Nat) : BufTy := match i % 128 with
  | 0 => ⟨S1x128x64, .f32⟩
  | 1 => ⟨S1x128x64, .f32⟩
  | 2 => ⟨S1x128x64, .f32⟩
  | 3 => ⟨S1x128x64, .f32⟩
  | 4 => ⟨S1x128x64, .f32⟩
  | 5 => ⟨S9x128x64, .f32⟩
  | 6 => ⟨S8x128x64, .f32⟩
  | 7 => ⟨S8x128x64x1, .f32⟩
  | 8 => ⟨S1x128x64x16, .f32⟩
  | 9 => ⟨S8x128x64x16, .f32⟩
  | 10 => ⟨S8x128x64x16, .f32⟩
  | 11 => ⟨S8x128x64x16, .f32⟩
  | 12 => ⟨S8x128x64, .f32⟩
  | 13 => ⟨S8x128x64x1, .f32⟩
  | 14 => ⟨S1x128x64x16, .f32⟩
  | 15 => ⟨S8x128x64x16, .f32⟩
  | 16 => ⟨S8x128x64x16, .f32⟩
  | 17 => ⟨S8x128x64x16, .f32⟩
  | 18 => ⟨S8x128x64x16, .f32⟩
  | 19 => ⟨S8x128x64, .f32⟩
  | 20 => ⟨S8x128x64x1, .f32⟩
  | 21 => ⟨S1x128x64x16, .f32⟩
  | 22 => ⟨S8x128x64x16, .f32⟩
  | 23 => ⟨S8x128x64x16, .f32⟩
  | 24 => ⟨S8x128x64x16, .f32⟩
  | 25 => ⟨S8x128x64, .f32⟩
  | 26 => ⟨S8x128x64x1, .f32⟩
  | 27 => ⟨S1x128x64x16, .f32⟩
  | 28 => ⟨S8x128x64x16, .f32⟩
  | 29 => ⟨S8x128x64x16, .f32⟩
  | 30 => ⟨S8x128x64x16, .f32⟩
  | 31 => ⟨S8x128x64x16, .f32⟩
  | 32 => ⟨S128x8x16x16, .f32⟩
  | 33 => ⟨S8x128x16x16, .f32⟩
  | 34 => ⟨S128x8x16x16, .f32⟩
  | 35 => ⟨S8x128x16x16, .f32⟩
  | 36 => ⟨S8x128x16x16, .f32⟩
  | 37 => ⟨S8x8, .i32⟩
  | 38 => ⟨S8x8, .i32⟩
  | 39 => ⟨S_, .i32⟩
  | 40 => ⟨S8x8, .i32⟩
  | 41 => ⟨S8x8, .i32⟩
  | 42 => ⟨S8x8, .i1⟩
  | 43 => ⟨S8x8, .f32⟩
  | 44 => ⟨S8x16x8x16x16, .f32⟩
  | 45 => ⟨S8x16x8x16x1x16, .f32⟩
  | 46 => ⟨S1x1x8x1x8x1, .f32⟩
  | 47 => ⟨S8x16x8x16x8x16, .f32⟩
  | 48 => ⟨S8x16x8x16x8x16, .f32⟩
  | 49 => ⟨S8x16x8x16x8x16, .f32⟩
  | 50 => ⟨S8x16x128x128, .f32⟩
  | 51 => ⟨S16x8x128x128, .f32⟩
  | 52 => ⟨S16x8x128x128, .bf16⟩
  | 53 => ⟨S8x128x64x16, .f32⟩
  | 54 => ⟨S8x128x16x64, .f32⟩
  | 55 => ⟨S8x16x8x16x64, .f32⟩
  | 56 => ⟨S8x16x8x16x1x64, .f32⟩
  | 57 => ⟨S1x1x8x1x8x1, .f32⟩
  | 58 => ⟨S8x16x8x16x8x64, .f32⟩
  | 59 => ⟨S8x16x8x16x8x64, .f32⟩
  | 60 => ⟨S8x16x8x16x8x64, .f32⟩
  | 61 => ⟨S8x16x128x512, .f32⟩
  | 62 => ⟨S16x8x128x512, .f32⟩
  | 63 => ⟨S16x8x128x512, .bf16⟩
  | 64 => ⟨S8x128x64x16, .f32⟩
  | 65 => ⟨S8x128x16x64, .f32⟩
  | 66 => ⟨S8x16x8x16x64, .f32⟩
  | 67 => ⟨S8x16x8x16x1x64, .f32⟩
  | 68 => ⟨S1x1x8x1x8x1, .f32⟩
  | 69 => ⟨S8x16x8x16x8x64, .f32⟩
  | 70 => ⟨S8x16x8x16x8x64, .f32⟩
  | 71 => ⟨S8x16x8x16x8x64, .f32⟩
  | 72 => ⟨S8x16x128x512, .f32⟩
  | 73 => ⟨S16x8x128x512, .f32⟩
  | 74 => ⟨S16x8x128x512, .bf16⟩
  | 75 => ⟨S8x128x64, .f32⟩
  | 76 => ⟨S8x128x1x64, .f32⟩
  | 77 => ⟨S8x128x64, .f32⟩
  | 78 => ⟨S8x128x1x64, .f32⟩
  | 79 => ⟨S1x128x16x64, .f32⟩
  | 80 => ⟨S8x128x16x64, .f32⟩
  | 81 => ⟨S8x128x16x64, .f32⟩
  | 82 => ⟨S8x128x16x64, .f32⟩
  | 83 => ⟨S1x128x16x64, .f32⟩
  | 84 => ⟨S8x128x16x64, .f32⟩
  | 85 => ⟨S8x128x16x64, .f32⟩
  | 86 => ⟨S8x128x16x64, .f32⟩
  | 87 => ⟨S8x128x16x64, .f32⟩
  | 88 => ⟨S8x128x64x16, .f32⟩
  | 89 => ⟨S8x16x8x64x16, .f32⟩
  | 90 => ⟨S8x16x8x64x1x16, .f32⟩
  | 91 => ⟨S1x1x8x1x8x1, .f32⟩
  | 92 => ⟨S8x16x8x64x8x16, .f32⟩
  | 93 => ⟨S8x16x8x64x8x16, .f32⟩
  | 94 => ⟨S8x16x8x64x8x16, .f32⟩
  | 95 => ⟨S8x16x512x128, .f32⟩
  | 96 => ⟨S16x8x512x128, .f32⟩
  | 97 => ⟨S16x8x512x128, .bf16⟩
  | 98 => ⟨S1x128x16x64, .f32⟩
  | 99 => ⟨S8x128x16x64, .f32⟩
  | 100 => ⟨S8x128x16x64, .f32⟩
  | 101 => ⟨S8x128x16x64, .f32⟩
  | 102 => ⟨S1x128x16x64, .f32⟩
  | 103 => ⟨S8x128x16x64, .f32⟩
  | 104 => ⟨S8x128x16x64, .f32⟩
  | 105 => ⟨S8x128x16x64, .f32⟩
  | 106 => ⟨S8x128x16x64, .f32⟩
  | 107 => ⟨S8x128x16x64, .f32⟩
  | 108 => ⟨S8x128x64x16, .f32⟩
  | 109 => ⟨S8x16x8x64x16, .f32⟩
  | 110 => ⟨S8x16x8x64x1x16, .f32⟩
  | 111 => ⟨S1x1x8x1x8x1, .f32⟩
  | 112 => ⟨S8x16x8x64x8x16, .f32⟩
  | 113 => ⟨S8x16x8x64x8x16, .f32⟩
  | 114 => ⟨S8x16x8x64x8x16, .f32⟩
  | 115 => ⟨S8x16x512x128, .f32⟩
  | 116 => ⟨S16x8x512x128, .f32⟩
  | 117 => ⟨S16x8x512x128, .bf16⟩
  | 118 => ⟨S1x128x64, .f32⟩
  | 119 => ⟨S128x64, .f32⟩
  | 120 => ⟨S1x8192, .f32⟩
  | 121 => ⟨S1x128x64, .f32⟩
  | 122 => ⟨S128x64, .f32⟩
  | 123 => ⟨S1x8192, .f32⟩
  | 124 => ⟨S128x16, .f32⟩
  | 125 => ⟨S128x128x64, .f32⟩
  | 126 => ⟨S128x8192, .f32⟩
  | 127 => ⟨S128x128x64, .f32⟩
  | _ => ⟨S1152x8x2048, .f32⟩

abbrev hbmTy0_2 (i : Nat) : BufTy := match i % 128 with
  | 0 => ⟨S128x8192, .f32⟩
  | 1 => ⟨S1x2048, .f32⟩
  | 2 => ⟨S128x8x2048, .f32⟩
  | 3 => ⟨S128x8192, .f32⟩
  | 4 => ⟨S128x8192, .f32⟩
  | 5 => ⟨S1x128x128x64, .f32⟩
  | 6 => ⟨S1x128x128x64, .f32⟩
  | _ => ⟨S1152x8x2048, .f32⟩

abbrev hbmTy (i : Nat) : BufTy := match i / 128 with
  | 0 => hbmTy0_0 i
  | 1 => hbmTy0_1 i
  | 2 => hbmTy0_2 i
  | _ => ⟨S1152x8x2048, .f32⟩

abbrev bufTy : (tb : Table) → Fin (tcTables nBuf tb) → BufTy
  | .hbm, ⟨i, _⟩ => hbmTy i
  | .local _ .vmem, ⟨0, _⟩ => ⟨S128x8x128, .f32⟩
  | .local _ .vmem, ⟨1, _⟩ => ⟨S128x8x128, .f32⟩
  | .local _ .vmem, ⟨2, _⟩ => ⟨S1x8x128x128, .bf16⟩
  | .local _ .vmem, ⟨3, _⟩ => ⟨S1x8x128x128, .bf16⟩
  | .local _ .vmem, ⟨4, _⟩ => ⟨S1x8x128x512, .bf16⟩
  | .local _ .vmem, ⟨5, _⟩ => ⟨S1x8x128x512, .bf16⟩
  | .local _ .vmem, ⟨6, _⟩ => ⟨S1x8x128x512, .bf16⟩
  | .local _ .vmem, ⟨7, _⟩ => ⟨S1x8x128x512, .bf16⟩
  | .local _ .vmem, ⟨8, _⟩ => ⟨S1x8x512x128, .bf16⟩
  | .local _ .vmem, ⟨9, _⟩ => ⟨S1x8x512x128, .bf16⟩
  | .local _ .vmem, ⟨10, _⟩ => ⟨S1x8x512x128, .bf16⟩
  | .local _ .vmem, ⟨11, _⟩ => ⟨S1x8x512x128, .bf16⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x128, .f32⟩
  | .local _ .vmem, ⟨17, _⟩ => ⟨S1x128, .f32⟩
  | .local _ .vmem, ⟨18, _⟩ => ⟨S128x512, .f32⟩
  | .local _ .vmem, ⟨19, _⟩ => ⟨S128x512, .f32⟩
  | .local _ .vmem, ⟨20, _⟩ => ⟨S128x512, .f32⟩
  | .local _ .vmem, ⟨21, _⟩ => ⟨S128x512, .f32⟩
  | .local _ .vmem, ⟨22, _⟩ => ⟨S128x8x128, .f32⟩
  | .local _ .vmem, ⟨23, _⟩ => ⟨S128x8x128, .f32⟩
  | .local _ .vmem, ⟨24, _⟩ => ⟨S128x512, .f32⟩
  | .local _ .vmem, ⟨25, _⟩ => ⟨S128x512, .f32⟩
  | .local _ .vmem, ⟨26, _⟩ => ⟨S128x512, .f32⟩
  | .local _ .vmem, ⟨27, _⟩ => ⟨S128x512, .f32⟩
  | _, _ => ⟨S1152x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_1 : Ref sig .tc := ⟨.hbm, 62, rfl⟩
abbrev main_v49 : Ref sig .tc := ⟨.hbm, 63, rfl⟩
abbrev main_cst_2 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_c : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_v171 : Ref sig .tc := ⟨.hbm, 187, rfl⟩
abbrev main_v172 : Ref sig .tc := ⟨.hbm, 188, rfl⟩
abbrev main_v173 : Ref sig .tc := ⟨.hbm, 189, rfl⟩
abbrev main_v174 : Ref sig .tc := ⟨.hbm, 190, rfl⟩
abbrev main_v175 : Ref sig .tc := ⟨.hbm, 191, rfl⟩
abbrev main_v176 : Ref sig .tc := ⟨.hbm, 192, rfl⟩
abbrev main_v177 : Ref sig .tc := ⟨.hbm, 193, rfl⟩
abbrev main_v178 : Ref sig .tc := ⟨.hbm, 194, rfl⟩
abbrev main_v179 : Ref sig .tc := ⟨.hbm, 195, rfl⟩
abbrev main_v180 : Ref sig .tc := ⟨.hbm, 196, rfl⟩
abbrev main_v181 : Ref sig .tc := ⟨.hbm, 197, rfl⟩
abbrev main_v182 : Ref sig .tc := ⟨.hbm, 198, rfl⟩
abbrev main_v183 : Ref sig .tc := ⟨.hbm, 199, rfl⟩
abbrev main_v184 : Ref sig .tc := ⟨.hbm, 200, rfl⟩
abbrev main_v185 : Ref sig .tc := ⟨.hbm, 201, rfl⟩
abbrev main_v186 : Ref sig .tc := ⟨.hbm, 202, rfl⟩
abbrev main_v187 : Ref sig .tc := ⟨.hbm, 203, rfl⟩
abbrev main_v188 : Ref sig .tc := ⟨.hbm, 204, rfl⟩
abbrev main_v189 : Ref sig .tc := ⟨.hbm, 205, rfl⟩
abbrev main_v190 : Ref sig .tc := ⟨.hbm, 206, rfl⟩
abbrev main_v191 : Ref sig .tc := ⟨.hbm, 207, rfl⟩
abbrev main_v192 : Ref sig .tc := ⟨.hbm, 208, rfl⟩
abbrev main_v193 : Ref sig .tc := ⟨.hbm, 209, rfl⟩
abbrev main_v194 : Ref sig .tc := ⟨.hbm, 210, rfl⟩
abbrev main_v195 : Ref sig .tc := ⟨.hbm, 211, rfl⟩
abbrev main_v196 : Ref sig .tc := ⟨.hbm, 212, rfl⟩
abbrev main_v197 : Ref sig .tc := ⟨.hbm, 213, rfl⟩
abbrev main_v198 : Ref sig .tc := ⟨.hbm, 214, rfl⟩
abbrev main_v199 : Ref sig .tc := ⟨.hbm, 215, rfl⟩
abbrev main_v200 : Ref sig .tc := ⟨.hbm, 216, rfl⟩
abbrev main_v201 : Ref sig .tc := ⟨.hbm, 217, rfl⟩
abbrev main_v202 : Ref sig .tc := ⟨.hbm, 218, rfl⟩
abbrev main_v203 : Ref sig .tc := ⟨.hbm, 219, rfl⟩
abbrev main_v204 : Ref sig .tc := ⟨.hbm, 220, rfl⟩
abbrev main_v205 : Ref sig .tc := ⟨.hbm, 221, rfl⟩
abbrev main_v206 : Ref sig .tc := ⟨.hbm, 222, rfl⟩
abbrev main_v207 : Ref sig .tc := ⟨.hbm, 223, rfl⟩
abbrev main_v208 : Ref sig .tc := ⟨.hbm, 224, rfl⟩
abbrev main_v209 : Ref sig .tc := ⟨.hbm, 225, rfl⟩
abbrev main_v210 : Ref sig .tc := ⟨.hbm, 226, rfl⟩
abbrev main_v211 : Ref sig .tc := ⟨.hbm, 227, rfl⟩
abbrev main_v212 : Ref sig .tc := ⟨.hbm, 228, rfl⟩
abbrev main_v213 : Ref sig .tc := ⟨.hbm, 229, rfl⟩
abbrev main_v214 : Ref sig .tc := ⟨.hbm, 230, rfl⟩
abbrev main_v215 : Ref sig .tc := ⟨.hbm, 231, rfl⟩
abbrev main_v216 : Ref sig .tc := ⟨.hbm, 232, rfl⟩
abbrev main_v217 : Ref sig .tc := ⟨.hbm, 233, rfl⟩
abbrev main_v218 : Ref sig .tc := ⟨.hbm, 234, rfl⟩
abbrev main_v219 : Ref sig .tc := ⟨.hbm, 235, rfl⟩
abbrev main_v220 : Ref sig .tc := ⟨.hbm, 236, rfl⟩
abbrev main_v221 : Ref sig .tc := ⟨.hbm, 237, rfl⟩
abbrev main_v222 : Ref sig .tc := ⟨.hbm, 238, rfl⟩
abbrev main_v223 : Ref sig .tc := ⟨.hbm, 239, rfl⟩
abbrev main_v224 : Ref sig .tc := ⟨.hbm, 240, rfl⟩
abbrev main_v225 : Ref sig .tc := ⟨.hbm, 241, rfl⟩
abbrev main_v226 : Ref sig .tc := ⟨.hbm, 242, rfl⟩
abbrev main_v227 : Ref sig .tc := ⟨.hbm, 243, rfl⟩
abbrev main_v228 : Ref sig .tc := ⟨.hbm, 244, rfl⟩
abbrev main_v229 : Ref sig .tc := ⟨.hbm, 245, rfl⟩
abbrev main_v230 : Ref sig .tc := ⟨.hbm, 246, rfl⟩
abbrev main_v231 : Ref sig .tc := ⟨.hbm, 247, rfl⟩
abbrev main_v232 : Ref sig .tc := ⟨.hbm, 248, rfl⟩
abbrev main_v233 : Ref sig .tc := ⟨.hbm, 249, rfl⟩
abbrev main_v234 : Ref sig .tc := ⟨.hbm, 250, rfl⟩
abbrev main_v235 : Ref sig .tc := ⟨.hbm, 251, rfl⟩
abbrev main_v236 : Ref sig .tc := ⟨.hbm, 252, rfl⟩
abbrev main_v237 : Ref sig .tc := ⟨.hbm, 253, rfl⟩
abbrev main_v238 : Ref sig .tc := ⟨.hbm, 254, rfl⟩
abbrev main_v239 : Ref sig .tc := ⟨.hbm, 255, rfl⟩
abbrev main_v240 : Ref sig .tc := ⟨.hbm, 256, rfl⟩
abbrev main_v241 : Ref sig .tc := ⟨.hbm, 257, rfl⟩
abbrev main_v242_0 : Ref sig .tc := ⟨.hbm, 258, rfl⟩
abbrev main_v242_1 : Ref sig .tc := ⟨.hbm, 259, rfl⟩
abbrev main_v242_2 : Ref sig .tc := ⟨.hbm, 260, rfl⟩
abbrev main_v243 : Ref sig .tc := ⟨.hbm, 261, rfl⟩
abbrev main_v244 : Ref sig .tc := ⟨.hbm, 262, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  ![c8_i32.toNat, c0_i32.toNat, arg0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference4Ideal.lean ====
abbrev S1152x8x2048 : Shape := ⟨3, ![1152, 8, 2048]⟩
abbrev S1x128x128x64 : Shape := ⟨4, ![1, 128, 128, 64]⟩
abbrev S1x128x64 : Shape := ⟨3, ![1, 128, 64]⟩
abbrev S1x128 : Shape := ⟨2, ![1, 128]⟩
abbrev S1x128x64x16 : Shape := ⟨4, ![1, 128, 64, 16]⟩
abbrev S1x128x16x64 : Shape := ⟨4, ![1, 128, 16, 64]⟩
abbrev S1x128x16 : Shape := ⟨3, ![1, 128, 16]⟩
abbrev S128x8x2048 : Shape := ⟨3, ![128, 8, 2048]⟩
abbrev S128x8x128x16 : Shape := ⟨4, ![128, 8, 128, 16]⟩
abbrev S128x64 : Shape := ⟨2, ![128, 64]⟩
abbrev S_ : Shape := ⟨0, ![]⟩
abbrev S128 : Shape := ⟨1, ![128]⟩
abbrev S128x1 : Shape := ⟨2, ![128, 1]⟩
abbrev S128x64x1 : Shape := ⟨3, ![128, 64, 1]⟩
abbrev S128x64x16 : Shape := ⟨3, ![128, 64, 16]⟩
abbrev S128x64x128x8 : Shape := ⟨4, ![128, 64, 128, 8]⟩
abbrev S128x8x128x64 : Shape := ⟨4, ![128, 8, 128, 64]⟩
abbrev S128x128x64 : Shape := ⟨3, ![128, 128, 64]⟩
abbrev S128x1x128x64 : Shape := ⟨4, ![128, 1, 128, 64]⟩

abbrev nBuf : Space → Nat
  | .hbm => 232
  | .vmem => 0
  | .smem => 0
  | _ => 0

abbrev hbmTy0_0 (i : Nat) : BufTy := match i % 128 with
  | 0 => ⟨S1152x8x2048, .f32⟩
  | 1 => ⟨S1x128x128x64, .f32⟩
  | 2 => ⟨S1x128x128x64, .f32⟩
  | 3 => ⟨S1x128x64, .f32⟩
  | 4 => ⟨S1x128x64, .f32⟩
  | 5 => ⟨S1x128, .f32⟩
  | 6 => ⟨S1x128x64x16, .f32⟩
  | 7 => ⟨S1x128x64x16, .f32⟩
  | 8 => ⟨S1x128x16x64, .f32⟩
  | 9 => ⟨S1x128x16x64, .f32⟩
  | 10 => ⟨S1x128x16, .f32⟩
  | 11 => ⟨S128x8x2048, .f32⟩
  | 12 => ⟨S128x8x128x16, .f32⟩
  | 13 => ⟨S128x64, .f32⟩
  | 14 => ⟨S_, .f32⟩
  | 15 => ⟨S128x64, .f32⟩
  | 16 => ⟨S128x64, .f32⟩
  | 17 => ⟨S128x64, .f32⟩
  | 18 => ⟨S128, .f32⟩
  | 19 => ⟨S128, .f32⟩
  | 20 => ⟨S128x1, .f32⟩
  | 21 => ⟨S128x64, .f32⟩
  | 22 => ⟨S128x64, .f32⟩
  | 23 => ⟨S128x64, .f32⟩
  | 24 => ⟨S128x64, .f32⟩
  | 25 => ⟨S128x64, .f32⟩
  | 26 => ⟨S128x64, .f32⟩
  | 27 => ⟨S128x64, .f32⟩
  | 28 => ⟨S128x64, .f32⟩
  | 29 => ⟨S128x64, .f32⟩
  | 30 => ⟨S128x64, .f32⟩
  | 31 => ⟨S128x64, .f32⟩
  | 32 => ⟨S_, .f32⟩
  | 33 => ⟨S128x64, .f32⟩
  | 34 => ⟨S128x64, .f32⟩
  | 35 => ⟨S128x64, .f32⟩
  | 36 => ⟨S128x64, .f32⟩
  | 37 => ⟨S128x64, .f32⟩
  | 38 => ⟨S128x64, .f32⟩
  | 39 => ⟨S128x64, .f32⟩
  | 40 => ⟨S128x64, .f32⟩
  | 41 => ⟨S128x64, .f32⟩
  | 42 => ⟨S128x64, .f32⟩
  | 43 => ⟨S128x64, .f32⟩
  | 44 => ⟨S128x64, .f32⟩
  | 45 => ⟨S128x64, .f32⟩
  | 46 => ⟨S128x64x1, .f32⟩
  | 47 => ⟨S128x64x16, .f32⟩
  | 48 => ⟨S128x64x16, .f32⟩
  | 49 => ⟨S128x64x16, .f32⟩
  | 50 => ⟨S128x64x1, .f32⟩
  | 51 => ⟨S128x64x16, .f32⟩
  | 52 => ⟨S128x64x16, .f32⟩
  | 53 => ⟨S128x64x16, .f32⟩
  | 54 => ⟨S128x64x16, .f32⟩
  | 55 => ⟨S128x64x1, .f32⟩
  | 56 => ⟨S128x64x16, .f32⟩
  | 57 => ⟨S128x64x16, .f32⟩
  | 58 => ⟨S128x64x16, .f32⟩
  | 59 => ⟨S128x64x1, .f32⟩
  | 60 => ⟨S128x64x16, .f32⟩
  | 61 => ⟨S128x64x16, .f32⟩
  | 62 => ⟨S128x64x16, .f32⟩
  | 63 => ⟨S128x64x16, .f32⟩
  | 64 => ⟨S128x64x128x8, .f32⟩
  | 65 => ⟨S128x8x128x64, .f32⟩
  | 66 => ⟨S128x64x128x8, .f32⟩
  | 67 => ⟨S128x8x128x64, .f32⟩
  | 68 => ⟨S128x128x64, .f32⟩
  | 69 => ⟨S128x128x64, .f32⟩
  | 70 => ⟨S1x128x64, .f32⟩
  | 71 => ⟨S128x128x64, .f32⟩
  | 72 => ⟨S128x128x64, .f32⟩
  | 73 => ⟨S1x128x64, .f32⟩
  | 74 => ⟨S128x128x64, .f32⟩
  | 75 => ⟨S128x128x64, .f32⟩
  | 76 => ⟨S128x128x64, .f32⟩
  | 77 => ⟨S128x1x128x64, .f32⟩
  | 78 => ⟨S128x128x64, .f32⟩
  | 79 => ⟨S128x128x64, .f32⟩
  | 80 => ⟨S1x128x64, .f32⟩
  | 81 => ⟨S128x128x64, .f32⟩
  | 82 => ⟨S128x128x64, .f32⟩
  | 83 => ⟨S1x128x64, .f32⟩
  | 84 => ⟨S128x128x64, .f32⟩
  | 85 => ⟨S128x128x64, .f32⟩
  | 86 => ⟨S128x128x64, .f32⟩
  | 87 => ⟨S128x1x128x64, .f32⟩
  | 88 => ⟨S128x128x64, .f32⟩
  | 89 => ⟨S128x128x64, .f32⟩
  | 90 => ⟨S1x128x64, .f32⟩
  | 91 => ⟨S128x128x64, .f32⟩
  | 92 => ⟨S128x128x64, .f32⟩
  | 93 => ⟨S1x128x64, .f32⟩
  | 94 => ⟨S128x128x64, .f32⟩
  | 95 => ⟨S128x128x64, .f32⟩
  | 96 => ⟨S128x128x64, .f32⟩
  | 97 => ⟨S128x1x128x64, .f32⟩
  | 98 => ⟨S128x128x64, .f32⟩
  | 99 => ⟨S128x128x64, .f32⟩
  | 100 => ⟨S1x128x64, .f32⟩
  | 101 => ⟨S128x128x64, .f32⟩
  | 102 => ⟨S128x128x64, .f32⟩
  | 103 => ⟨S1x128x64, .f32⟩
  | 104 => ⟨S128x128x64, .f32⟩
  | 105 => ⟨S128x128x64, .f32⟩
  | 106 => ⟨S128x128x64, .f32⟩
  | 107 => ⟨S128x1x128x64, .f32⟩
  | 108 => ⟨S128x128x64, .f32⟩
  | 109 => ⟨S128x128x64, .f32⟩
  | 110 => ⟨S1x128x64, .f32⟩
  | 111 => ⟨S128x128x64, .f32⟩
  | 112 => ⟨S128x128x64, .f32⟩
  | 113 => ⟨S1x128x64, .f32⟩
  | 114 => ⟨S128x128x64, .f32⟩
  | 115 => ⟨S128x128x64, .f32⟩
  | 116 => ⟨S128x128x64, .f32⟩
  | 117 => ⟨S128x1x128x64, .f32⟩
  | 118 => ⟨S128x128x64, .f32⟩
  | 119 => ⟨S128x128x64, .f32⟩
  | 120 => ⟨S1x128x64, .f32⟩
  | 121 => ⟨S128x128x64, .f32⟩
  | 122 => ⟨S128x128x64, .f32⟩
  | 123 => ⟨S1x128x64, .f32⟩
  | 124 => ⟨S128x128x64, .f32⟩
  | 125 => ⟨S128x128x64, .f32⟩
  | 126 => ⟨S128x128x64, .f32⟩
  | 127 => ⟨S128x1x128x64, .f32⟩
  | _ => ⟨S1152x8x2048, .f32⟩

abbrev hbmTy0_1 (i : Nat) : BufTy := match i % 128 with
  | 0 => ⟨S128x128x64, .f32⟩
  | 1 => ⟨S128x128x64, .f32⟩
  | 2 => ⟨S1x128x64, .f32⟩
  | 3 => ⟨S128x128x64, .f32⟩
  | 4 => ⟨S128x128x64, .f32⟩
  | 5 => ⟨S1x128x64, .f32⟩
  | 6 => ⟨S128x128x64, .f32⟩
  | 7 => ⟨S128x128x64, .f32⟩
  | 8 => ⟨S128x128x64, .f32⟩
  | 9 => ⟨S128x1x128x64, .f32⟩
  | 10 => ⟨S128x128x64, .f32⟩
  | 11 => ⟨S128x128x64, .f32⟩
  | 12 => ⟨S1x128x64, .f32⟩
  | 13 => ⟨S128x128x64, .f32⟩
  | 14 => ⟨S128x128x64, .f32⟩
  | 15 => ⟨S1x128x64, .f32⟩
  | 16 => ⟨S128x128x64, .f32⟩
  | 17 => ⟨S128x128x64, .f32⟩
  | 18 => ⟨S128x128x64, .f32⟩
  | 19 => ⟨S128x1x128x64, .f32⟩
  | 20 => ⟨S128x128x64, .f32⟩
  | 21 => ⟨S128x128x64, .f32⟩
  | 22 => ⟨S1x128x64, .f32⟩
  | 23 => ⟨S128x128x64, .f32⟩
  | 24 => ⟨S128x128x64, .f32⟩
  | 25 => ⟨S1x128x64, .f32⟩
  | 26 => ⟨S128x128x64, .f32⟩
  | 27 => ⟨S128x128x64, .f32⟩
  | 28 => ⟨S128x128x64, .f32⟩
  | 29 => ⟨S128x1x128x64, .f32⟩
  | 30 => ⟨S128x128x64, .f32⟩
  | 31 => ⟨S128x128x64, .f32⟩
  | 32 => ⟨S1x128x64, .f32⟩
  | 33 => ⟨S128x128x64, .f32⟩
  | 34 => ⟨S128x128x64, .f32⟩
  | 35 => ⟨S1x128x64, .f32⟩
  | 36 => ⟨S128x128x64, .f32⟩
  | 37 => ⟨S128x128x64, .f32⟩
  | 38 => ⟨S128x128x64, .f32⟩
  | 39 => ⟨S128x1x128x64, .f32⟩
  | 40 => ⟨S128x128x64, .f32⟩
  | 41 => ⟨S128x128x64, .f32⟩
  | 42 => ⟨S1x128x64, .f32⟩
  | 43 => ⟨S128x128x64, .f32⟩
  | 44 => ⟨S128x128x64, .f32⟩
  | 45 => ⟨S1x128x64, .f32⟩
  | 46 => ⟨S128x128x64, .f32⟩
  | 47 => ⟨S128x128x64, .f32⟩
  | 48 => ⟨S128x128x64, .f32⟩
  | 49 => ⟨S128x1x128x64, .f32⟩
  | 50 => ⟨S128x128x64, .f32⟩
  | 51 => ⟨S128x128x64, .f32⟩
  | 52 => ⟨S1x128x64, .f32⟩
  | 53 => ⟨S128x128x64, .f32⟩
  | 54 => ⟨S128x128x64, .f32⟩
  | 55 => ⟨S1x128x64, .f32⟩
  | 56 => ⟨S128x128x64, .f32⟩
  | 57 => ⟨S128x128x64, .f32⟩
  | 58 => ⟨S128x128x64, .f32⟩
  | 59 => ⟨S128x1x128x64, .f32⟩
  | 60 => ⟨S128x128x64, .f32⟩
  | 61 => ⟨S128x128x64, .f32⟩
  | 62 => ⟨S1x128x64, .f32⟩
  | 63 => ⟨S128x128x64, .f32⟩
  | 64 => ⟨S128x128x64, .f32⟩
  | 65 => ⟨S1x128x64, .f32⟩
  | 66 => ⟨S128x128x64, .f32⟩
  | 67 => ⟨S128x128x64, .f32⟩
  | 68 => ⟨S128x128x64, .f32⟩
  | 69 => ⟨S128x1x128x64, .f32⟩
  | 70 => ⟨S128x128x64, .f32⟩
  | 71 => ⟨S128x128x64, .f32⟩
  | 72 => ⟨S1x128x64, .f32⟩
  | 73 => ⟨S128x128x64, .f32⟩
  | 74 => ⟨S128x128x64, .f32⟩
  | 75 => ⟨S1x128x64, .f32⟩
  | 76 => ⟨S128x128x64, .f32⟩
  | 77 => ⟨S128x128x64, .f32⟩
  | 78 => ⟨S128x128x64, .f32⟩
  | 79 => ⟨S128x1x128x64, .f32⟩
  | 80 => ⟨S128x128x64, .f32⟩
  | 81 => ⟨S128x128x64, .f32⟩
  | 82 => ⟨S1x128x64, .f32⟩
  | 83 => ⟨S128x128x64, .f32⟩
  | 84 => ⟨S128x128x64, .f32⟩
  | 85 => ⟨S1x128x64, .f32⟩
  | 86 => ⟨S128x128x64, .f32⟩
  | 87 => ⟨S128x128x64, .f32⟩
  | 88 => ⟨S128x128x64, .f32⟩
  | 89 => ⟨S128x1x128x64, .f32⟩
  | 90 => ⟨S128x128x64, .f32⟩
  | 91 => ⟨S128x128x64, .f32⟩
  | 92 => ⟨S1x128x64, .f32⟩
  | 93 => ⟨S128x128x64, .f32⟩
  | 94 => ⟨S128x128x64, .f32⟩
  | 95 => ⟨S1x128x64, .f32⟩
  | 96 => ⟨S128x128x64, .f32⟩
  | 97 => ⟨S128x128x64, .f32⟩
  | 98 => ⟨S128x128x64, .f32⟩
  | 99 => ⟨S128x1x128x64, .f32⟩
  | 100 => ⟨S128x128x64, .f32⟩
  | 101 => ⟨S128x128x64, .f32⟩
  | 102 => ⟨S1x128x128x64, .f32⟩
  | 103 => ⟨S1x128x128x64, .f32⟩
  | _ => ⟨S1152x8x2048, .f32⟩

abbrev hbmTy (i : Nat) : BufTy := match i / 128 with
  | 0 => hbmTy0_0 i
  | 1 => hbmTy0_1 i
  | _ => ⟨S1152x8x2048, .f32⟩

abbrev bufTy : (tb : Table) → Fin (tcTables nBuf tb) → BufTy
  | .hbm, ⟨i, _⟩ => hbmTy i
  | _, _ => ⟨S1152x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_v161 : Ref sig .tc := ⟨.hbm, 174, rfl⟩
abbrev main_v162 : Ref sig .tc := ⟨.hbm, 175, rfl⟩
abbrev main_v163 : Ref sig .tc := ⟨.hbm, 176, rfl⟩
abbrev main_v164 : Ref sig .tc := ⟨.hbm, 177, rfl⟩
abbrev main_v165 : Ref sig .tc := ⟨.hbm, 178, rfl⟩
abbrev main_v166 : Ref sig .tc := ⟨.hbm, 179, rfl⟩
abbrev main_v167 : Ref sig .tc := ⟨.hbm, 180, rfl⟩
abbrev main_v168 : Ref sig .tc := ⟨.hbm, 181, rfl⟩
abbrev main_v169 : Ref sig .tc := ⟨.hbm, 182, rfl⟩
abbrev main_v170 : Ref sig .tc := ⟨.hbm, 183, rfl⟩
abbrev main_v171 : Ref sig .tc := ⟨.hbm, 184, rfl⟩
abbrev main_v172 : Ref sig .tc := ⟨.hbm, 185, rfl⟩
abbrev main_v173 : Ref sig .tc := ⟨.hbm, 186, rfl⟩
abbrev main_v174 : Ref sig .tc := ⟨.hbm, 187, rfl⟩
abbrev main_v175 : Ref sig .tc := ⟨.hbm, 188, rfl⟩
abbrev main_v176 : Ref sig .tc := ⟨.hbm, 189, rfl⟩
abbrev main_v177 : Ref sig .tc := ⟨.hbm, 190, rfl⟩
abbrev main_v178 : Ref sig .tc := ⟨.hbm, 191, rfl⟩
abbrev main_v179 : Ref sig .tc := ⟨.hbm, 192, rfl⟩
abbrev main_v180 : Ref sig .tc := ⟨.hbm, 193, rfl⟩
abbrev main_v181 : Ref sig .tc := ⟨.hbm, 194, rfl⟩
abbrev main_v182 : Ref sig .tc := ⟨.hbm, 195, rfl⟩
abbrev main_v183 : Ref sig .tc := ⟨.hbm, 196, rfl⟩
abbrev main_v184 : Ref sig .tc := ⟨.hbm, 197, rfl⟩
abbrev main_v185 : Ref sig .tc := ⟨.hbm, 198, rfl⟩
abbrev main_v186 : Ref sig .tc := ⟨.hbm, 199, rfl⟩
abbrev main_v187 : Ref sig .tc := ⟨.hbm, 200, rfl⟩
abbrev main_v188 : Ref sig .tc := ⟨.hbm, 201, rfl⟩
abbrev main_v189 : Ref sig .tc := ⟨.hbm, 202, rfl⟩
abbrev main_v190 : Ref sig .tc := ⟨.hbm, 203, rfl⟩
abbrev main_v191 : Ref sig .tc := ⟨.hbm, 204, rfl⟩
abbrev main_v192 : Ref sig .tc := ⟨.hbm, 205, rfl⟩
abbrev main_v193 : Ref sig .tc := ⟨.hbm, 206, rfl⟩
abbrev main_v194 : Ref sig .tc := ⟨.hbm, 207, rfl⟩
abbrev main_v195 : Ref sig .tc := ⟨.hbm, 208, rfl⟩
abbrev main_v196 : Ref sig .tc := ⟨.hbm, 209, rfl⟩
abbrev main_v197 : Ref sig .tc := ⟨.hbm, 210, rfl⟩
abbrev main_v198 : Ref sig .tc := ⟨.hbm, 211, rfl⟩
abbrev main_v199 : Ref sig .tc := ⟨.hbm, 212, rfl⟩
abbrev main_v200 : Ref sig .tc := ⟨.hbm, 213, rfl⟩
abbrev main_v201 : Ref sig .tc := ⟨.hbm, 214, rfl⟩
abbrev main_v202 : Ref sig .tc := ⟨.hbm, 215, rfl⟩
abbrev main_v203 : Ref sig .tc := ⟨.hbm, 216, rfl⟩
abbrev main_v204 : Ref sig .tc := ⟨.hbm, 217, rfl⟩
abbrev main_v205 : Ref sig .tc := ⟨.hbm, 218, rfl⟩
abbrev main_v206 : Ref sig .tc := ⟨.hbm, 219, rfl⟩
abbrev main_v207 : Ref sig .tc := ⟨.hbm, 220, rfl⟩
abbrev main_v208 : Ref sig .tc := ⟨.hbm, 221, rfl⟩
abbrev main_v209 : Ref sig .tc := ⟨.hbm, 222, rfl⟩
abbrev main_v210 : Ref sig .tc := ⟨.hbm, 223, rfl⟩
abbrev main_v211 : Ref sig .tc := ⟨.hbm, 224, rfl⟩
abbrev main_v212 : Ref sig .tc := ⟨.hbm, 225, rfl⟩
abbrev main_v213 : Ref sig .tc := ⟨.hbm, 226, rfl⟩
abbrev main_v214 : Ref sig .tc := ⟨.hbm, 227, rfl⟩
abbrev main_v215 : Ref sig .tc := ⟨.hbm, 228, rfl⟩
abbrev main_v216 : Ref sig .tc := ⟨.hbm, 229, rfl⟩
abbrev main_v217 : Ref sig .tc := ⟨.hbm, 230, rfl⟩
abbrev main_v218 : Ref sig .tc := ⟨.hbm, 231, rfl⟩

abbrev nD : Nat := 1
abbrev τ : Topo := Topo.v7x

variable {F : FTy → Type} [FloatOps F]
-- ==== Proof.Gated.lean ====
/- The gated hidden value of the feed-forward, over the extended reals. -/
module

public import Idealize.ShloMosaic.Lib.Pointwise
public import Idealize.ShloMosaic.PureOps.Ideal.Laws

@[expose] public section

set_option maxRecDepth 16384

noncomputable section

namespace Cert.Expert

open Idealize.ShloMosaic

/-- The gated hidden value of a gate product `a` and an up product `b`: `a` times its logistic times `b`. -/
def gated (a b : EReal) : EReal := (a * Ideal.div 1 (1 + Ideal.exp (0 - a))) * b

/-- The logistic with the negation written out is the one with the subtraction from zero. -/
theorem gated_neg (a b : EReal) : (a * Ideal.div 1 (1 + Ideal.exp (-a))) * b = gated a b := by
  unfold gated; rw [zero_sub]

end Cert.Expert

end

end
-- ==== Proof.Ref.lean ====
/- The value of the reference: at slot `s` and column `l`, the gate of the slot times the output of the expert that
   the slot's tile names. -/
module

public import proofs.«01_k».proof.Proof.Gated
public import proofs.«01_k».proof.Proof.Gen.ReferenceIdeal.Run
public import proofs.«01_k».proof.Proof.Gen.ReferenceIdeal.Read
public import Idealize.ShloMosaic.Lib.Pointwise

@[expose] public section

set_option maxRecDepth 16384

noncomputable section

namespace Cert.ReferenceIdeal.Expert

open Cert.ReferenceIdeal Cert.ReferenceIdeal.Read Cert.Expert
open Idealize.ShloMosaic Idealize.ShloMosaic.TcCoe

variable (x0 x1 : IVec S44 32) (x2 : FVec Ideal S22528x2048 .bf16) (x3 x4 : FVec Ideal S1x8x2048x7168 .f32)
  (x5 : FVec Ideal S1x8x7168x2048 .f32) (x6 : FVec Ideal S22528 .f32)

/-- The hidden value of expert `e`, slot `s`, hidden column `j`. -/
theorem hidden_at (e : Fin 8) (s : Fin 22528) (j : Fin 7168) :
    val_main_v21 (F := Ideal) x2 x3 x4 (ix3 e s j : S8x22528x7168.Idx)
      = gated (∑ d : Fin 2048, x2 (ix2 s d) * x3 (ix4 0 e d j)) (∑ d : Fin 2048, x2 (ix2 s d) * x4 (ix4 0 e d j)) := by
  have i14 (d : Fin 2048) : idx_main_v14 (lidx_main_v15 (idx_main_v16 (ix3 e s j : S8x22528x7168.Idx)) d) = ix4 0 e d j := by
    have he : e.val < 8 := e.isLt
    have hd : d.val < 2048 := d.isLt
    have hj : j.val < 7168 := j.isLt
    funext a
    apply Fin.ext
    match a with
    | ⟨0, _⟩ => rfl
    | ⟨1, _⟩ => show ((e.val * 2048 + d.val) * 7168 + j.val) / 14680064 % 8 = e.val; omega
    | ⟨2, _⟩ => show ((e.val * 2048 + d.val) * 7168 + j.val) / 7168 % 2048 = d.val; omega
    | ⟨3, _⟩ => show ((e.val * 2048 + d.val) * 7168 + j.val) % 7168 = j.val; omega
  have h16 : val_main_v16 (F := Ideal) x2 x3 (ix3 e s j : S8x22528x7168.Idx) = ∑ d : Fin 2048, x2 (ix2 s d) * x3 (ix4 0 e d j) := by
    rw [val_main_v16_apply, val_main_v15_apply]
    refine Finset.sum_congr rfl fun d _ => ?_
    rw [val_main_v14_apply, val_main_v0_apply, mul_comm]
    exact congrArg₂ (fun (a : EReal) (b : EReal) => a * b)
      (congrArg x2 (funext fun a => Fin.ext (by match a with | ⟨0, _⟩ => rfl | ⟨1, _⟩ => rfl)))
      (congrArg x3 (i14 d))
  have h20 : val_main_v20 (F := Ideal) x2 x4 (ix3 e s j : S8x22528x7168.Idx) = ∑ d : Fin 2048, x2 (ix2 s d) * x4 (ix4 0 e d j) := by
    rw [val_main_v20_apply, val_main_v19_apply]
    refine Finset.sum_congr rfl fun d _ => ?_
    rw [val_main_v18_apply, val_main_v0_apply, mul_comm]
    exact congrArg₂ (fun (a : EReal) (b : EReal) => a * b)
      (congrArg x2 (funext fun a => Fin.ext (by match a with | ⟨0, _⟩ => rfl | ⟨1, _⟩ => rfl)))
      (congrArg x4 (i14 d))
  rw [val_main_v21_apply, val_main_v17_apply, val_main_call2_v5_apply, val_main_call2_v4_apply, val_main_call2_cst_0_apply,
    val_main_call2_v3_apply, val_main_call2_v2_apply, val_main_call2_cst_apply, val_main_call2_v1_apply, val_main_call2_v0_apply, h16, h20]
  rw [← gated_neg]
  pointwise

/-- The combination weight of expert `e` at row `r` of tile `k`. -/
theorem comb_at (e : Fin 8) (k : Fin 44) (r : Fin 512) (s : Fin 22528) (hs : s.val = k.val * 512 + r.val) :
    val_main_v13 (F := Ideal) x0 x1 x6 (ix2 e s : S8x22528.Idx)
      = (if x0 (ix1 k) = BitVec.ofNat 32 e.val then (1 : EReal) else 0) * (if (0#32).slt (x1 (ix1 k)) then x6 (ix1 s) else 0) := by
  have i12 : idx_main_v12 (idx_main_v13 (ix2 e s : S8x22528.Idx)) = (ix3 k r e : S44x512x8.Idx) := by
    have he : e.val < 8 := e.isLt
    have hr : r.val < 512 := r.isLt
    funext a
    apply Fin.ext
    match a with
    | ⟨0, _⟩ => show (s.val * 8 + e.val) / 4096 = k.val; omega
    | ⟨1, _⟩ => show (s.val * 8 + e.val) / 8 % 512 = r.val; omega
    | ⟨2, _⟩ => show (s.val * 8 + e.val) % 8 = e.val; omega
  rw [val_main_v13_apply, val_main_v12_apply, i12, val_main_v11_apply, val_main_v9_apply, val_main_v7_apply, val_main_v6_apply,
    val_main_call1_v4_apply, val_main_call1_v2_apply, val_main_call1_v3_apply, val_main_call1_v0_apply, val_main_call1_v1_apply,
    val_main_v10_apply, val_main_v8_apply, val_main_v5_apply, val_main_call0_v1_apply, val_main_v3_apply, val_main_v1_apply, val_main_v2_apply, val_main_c_apply,
    val_main_v4_apply, val_main_call0_v2_apply, val_main_call0_v0_apply, val_main_cst_apply]
  have i0 : idx_main_call1_v0 (idx_main_call1_v2 (idx_main_v7 (idx_main_v9 (ix3 k r e : S44x512x8.Idx)))) = ix1 k := by
    funext a
    match a with
    | ⟨0, _⟩ => rfl
  have i1 : idx_main_v1 (idx_main_call0_v1 (idx_main_v8 (idx_main_v10 (ix3 k r e : S44x512x8.Idx)))) = ix1 k := by
    funext a
    match a with
    | ⟨0, _⟩ => rfl
  have i4 : idx_main_v4 (idx_main_v8 (idx_main_v10 (ix3 k r e : S44x512x8.Idx))) = ix1 s := by
    funext a
    apply Fin.ext
    match a with
    | ⟨0, _⟩ => exact hs.symm
  rw [i0, i1, i4]
  have hu : FloatOps.uitofp (F := Ideal) FTy.f32 (IntOp.cmpi CmpIPredicate.eq (x0 (ix1 k)) (BitVec.ofNat 32 e.val))
      = (if x0 (ix1 k) = BitVec.ofNat 32 e.val then (1 : EReal) else 0) := by
    by_cases h : x0 (ix1 k) = BitVec.ofNat 32 e.val
    · have hc : IntOp.cmpi CmpIPredicate.eq (x0 (ix1 k)) (BitVec.ofNat 32 e.val) = 1#1 := by simp [IntOp.cmpi, h]
      rw [if_pos h, hc]
      show (((1#1 : BitVec 1).toNat : ℝ) : EReal) = 1
      simp
    · have hc : IntOp.cmpi CmpIPredicate.eq (x0 (ix1 k)) (BitVec.ofNat 32 e.val) = 0#1 := by
        show BitVec.ofBool (x0 (ix1 k) == BitVec.ofNat 32 e.val) = 0#1
        rw [beq_eq_false_iff_ne.mpr h]; rfl
      rw [if_neg h, hc]
      show (((0#1 : BitVec 1).toNat : ℝ) : EReal) = 0
      simp
  refine congrArg₂ (fun (a : EReal) (b : EReal) => a * b) hu ?_
  by_cases h : (0#32).slt (x1 (ix1 k)) = true
  · rw [if_pos h]; simp [Scalar.select, IntOp.cmpi, h]
  · rw [if_neg h]; simp [Scalar.select, IntOp.cmpi, h]

/-- The output of expert `e` at slot `s`, column `l`. -/
theorem out_at (e : Fin 8) (s : Fin 22528) (l : Fin 2048) :
    val_main_v23 (F := Ideal) x2 x3 x4 x5 (ix3 e s l : S8x22528x2048.Idx)
      = ∑ j : Fin 7168, gated (∑ d : Fin 2048, x2 (ix2 s d) * x3 (ix4 0 e d j)) (∑ d : Fin 2048, x2 (ix2 s d) * x4 (ix4 0 e d j))
          * x5 (ix4 0 e j l) := by
  rw [val_main_v23_apply]
  refine Finset.sum_congr rfl fun j _ => ?_
  rw [val_main_v22_apply]
  have i21 : lidx_main_v23 (ix3 e s l : S8x22528x2048.Idx) j = ix3 e s j := by
    funext a
    match a with
    | ⟨0, _⟩ => rfl
    | ⟨1, _⟩ => rfl
    | ⟨2, _⟩ => rfl
  have i22 : idx_main_v22 (ridx_main_v23 (ix3 e s l : S8x22528x2048.Idx) j) = ix4 0 e j l := by
    have he : e.val < 8 := e.isLt
    have hl : l.val < 2048 := l.isLt
    have hj : j.val < 7168 := j.isLt
    funext a
    apply Fin.ext
    match a with
    | ⟨0, _⟩ => rfl
    | ⟨1, _⟩ => show ((e.val * 7168 + j.val) * 2048 + l.val) / 14680064 % 8 = e.val; omega
    | ⟨2, _⟩ => show ((e.val * 7168 + j.val) * 2048 + l.val) / 2048 % 7168 = j.val; omega
    | ⟨3, _⟩ => show ((e.val * 7168 + j.val) * 2048 + l.val) % 2048 = l.val; omega
  rw [i21, i22, hidden_at]

/-- The reference at slot `s` (row `r` of tile `k`) and column `l`, where `e` is the expert the tile names. -/
theorem value_at (e : Fin 8) (k : Fin 44) (r : Fin 512) (s : Fin 22528) (hs : s.val = k.val * 512 + r.val) (l : Fin 2048)
    (he : x0 (ix1 k) = BitVec.ofNat 32 e.val) :
    val_main_v27 (F := Ideal) x0 x1 x2 x3 x4 x5 x6 (ix2 s l : S22528x2048.Idx)
      = (if (0#32).slt (x1 (ix1 k)) then x6 (ix1 s) else (0 : EReal))
        * ∑ j : Fin 7168, gated (∑ d : Fin 2048, x2 (ix2 s d) * x3 (ix4 0 e d j)) (∑ d : Fin 2048, x2 (ix2 s d) * x4 (ix4 0 e d j))
          * x5 (ix4 0 e j l) := by
  have hterm (e' : Fin 8) : val_main_v26 (F := Ideal) x0 x1 x2 x3 x4 x5 x6 (idx_main_v27 (ix2 s l : S22528x2048.Idx) e')
      = (val_main_v13 (F := Ideal) x0 x1 x6 (ix2 e' s : S8x22528.Idx) : EReal) * val_main_v23 (F := Ideal) x2 x3 x4 x5 (ix3 e' s l : S8x22528x2048.Idx) := by
    rw [val_main_v26_apply, val_main_v25_apply, val_main_v24_apply]
    refine congrArg₂ (fun (a : EReal) (b : EReal) => a * b) (congrArg _ ?_) (congrArg _ ?_)
    · funext a
      match a with
      | ⟨0, _⟩ => rfl
      | ⟨1, _⟩ => rfl
    · funext a
      match a with
      | ⟨0, _⟩ => rfl
      | ⟨1, _⟩ => rfl
      | ⟨2, _⟩ => rfl
  rw [val_main_v27_apply, val_main_cst_0_apply]
  have h0 : (FloatOps.ofBits (F := Ideal) FTy.f32 0x00000000#32 : EReal) = 0 := Ideal.ofBits_zero_f32
  rw [h0, zero_add, Finset.sum_eq_single e]
  · rw [hterm, comb_at x0 x1 x6 e k r s hs, if_pos he, one_mul, out_at]
  · intro e' _ hne
    rw [hterm, comb_at x0 x1 x6 e' k r s hs, if_neg, zero_mul, zero_mul]
    intro h
    apply hne
    have h2 := congrArg BitVec.toNat (he.symm.trans h)
    rw [BitVec.toNat_ofNat, BitVec.toNat_ofNat] at h2
    have := e.isLt
    have := e'.isLt
    apply Fin.ext
    omega
  · intro h; exact absurd (Finset.mem_univ e) h

end Cert.ReferenceIdeal.Expert

end

end
-- ==== Proof.ExpertPoint.lean ====
/- The expert feed-forward's arithmetic at one element: the payloads of its body read at coordinates. -/
module

public import proofs.«01_k».proof.Proof.Gated
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Expert

open Cert.KernelIdeal Cert.KernelIdeal.Gen Cert.Expert
open Idealize.ShloMosaic Idealize.ShloMosaic.TcCoe

/-- The accumulator starts from zero. -/
theorem pay1_at (r : Fin 512) (l : Fin 2048) : k0_pay1 (F := Ideal) (ix2 r l) = (0 : EReal) := by
  pointwise [k0_pay1]

/-- One step at an element: the accumulator plus the step's 512 gated hidden values times the down weights. -/
theorem pay2_at (x : FVec Ideal S512x2048 .bf16) (wg wu : FVec Ideal S1x2048x512 .bf16) (acc : FVec Ideal S512x2048 .f32)
    (wd : FVec Ideal S1x512x2048 .bf16) (r : Fin 512) (l : Fin 2048) :
    k0_pay2 (F := Ideal) x wg wu acc wd (ix2 r l) = acc (ix2 r l) + ∑ j : Fin 512,
      gated (∑ d : Fin 2048, x (ix2 r d) * wg (ix3 0 d j)) (∑ d : Fin 2048, x (ix2 r d) * wu (ix3 0 d j)) * wd (ix3 0 j l) := by
  pointwise [k0_pay2]
  rfl

/-- The output block at an element: the accumulator times the row's gate. -/
theorem pay3_at (acc : FVec Ideal S512x2048 .f32) (g : FVec Ideal S512x1 .f32) (r : Fin 512) (l : Fin 2048) :
    k0_pay3 (F := Ideal) acc g (ix2 r l) = (acc (ix2 r l) * g (ix2 r 0) : EReal) := by
  pointwise [k0_pay3]

end Cert.KernelIdeal.Expert

end

end
-- ==== Proof.TablesIdeal.lean ====
/- The prefetched tables of the expert feed-forward: under the precondition `tables_in_range` (an expert number below
   eight and a validity flag of zero or one per tile) every block the weight windows name lies inside its array, so the
   pipeline's side condition `Gen.Ok` holds. -/
module

public import proofs.«01_k».proof.Defs
public import proofs.«01_k».proof.Proof.Gen.KernelIdeal.Frame
public import proofs.«01_k».proof.Proof.Gen.Pre_tables_in_range
public import Idealize.ShloMosaic.Lib.Pointwise

@[expose] public section

set_option maxRecDepth 16384

noncomputable section

namespace Cert.KernelIdeal.Tables

open Cert.KernelIdeal Cert.KernelIdeal.Gen
open Idealize.ShloMosaic Idealize.ShloMosaic.TcCoe

/-- The expert number of tile `k`, as a natural number. -/
def te {F : FTy → Type} (m : (ℓ : Loc nD τ sig) → Buf (Elt F) ℓ) (k : Fin 44) : ℕ :=
  (show BitVec 32 from m (((0 : Dev nD) : Thread nD τ).loc main_arg0) (ix1 k : S44.Idx)).toNat

/-- The validity flag of tile `k`, as a natural number. -/
def tv {F : FTy → Type} (m : (ℓ : Loc nD τ sig) → Buf (Elt F) ℓ) (k : Fin 44) : ℕ :=
  (show BitVec 32 from m (((0 : Dev nD) : Thread nD τ).loc main_arg1) (ix1 k : S44.Idx)).toNat

/-- The precondition says: every expert number is below eight and every flag is at most one. -/
theorem te_tv_of_pre (m : (ℓ : Loc nD τ sig) → Buf (Elt Ideal) ℓ) (h : Cert.Pre_KernelIdeal m) (k : Fin 44) :
    te m k < 8 ∧ tv m k ≤ 1 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := congrFun (h 0) (ix1 k : S44.Idx)
  simp only [Pre_tables_in_range.fn, andi, cmpi, broadcastInDim, constantI, IntOp.cmpi, andi_ofBool, ofBool_eq_one,
    Bool.and_eq_true] at e
  obtain ⟨⟨⟨h1, h2⟩, h3⟩, h4⟩ := e
  simp only [BitVec.sle, BitVec.slt, decide_eq_true_eq, BitVec.toInt, BitVec.toNat_ofNat] at h1 h2 h3 h4
  constructor
  · unfold te; dsimp only; omega
  · unfold tv; dsimp only; omega

section
variable {F : FTy → Type} [FloatOps F] (m : (ℓ : Loc nD τ sig) → Buf (Elt F) ℓ)

/-- A natural number below 2^32 survives the passage through a 32-bit word and an index. -/
theorem toNat_indexCast (n : ℕ) (h : n < 2 ^ 32) : (Scalar.indexCast (BitVec.ofNat 32 n) : Index).toNat = n := by
  unfold Scalar.indexCast
  rw [BitVec.toNat_ofNat]
  exact Nat.mod_eq_of_lt h

theorem coord0_lt (i : grid0.Coords) : (i 0).val < 44 := (i 0).isLt
theorem coord1_lt (i : grid0.Coords) : (i 1).val < 14 := (i 1).isLt

/-- The one index of a one-element rectangle of a table, at tile `i 0`. -/
theorem unit_first (i : grid0.Coords) (off : Fin 1 → ℕ) (inb : ∀ a, off a + S1.size a ≤ S44.size a)
    (h1 : (Rect.unit (s := S44) off S1.size inb).shape.numel = 1) (hoff : off 0 = (i 0).val) :
    (Rect.unit (s := S44) off S1.size inb).emb (Shape.Idx.first (h1.symm ▸ Nat.one_pos)) = (ix1 (i 0) : S44.Idx) := by
  funext a
  match a with
  | ⟨0, _⟩ =>
    apply Fin.ext
    have hlt : ((Shape.Idx.first (s := (Rect.unit (s := S44) off S1.size inb).shape) (h1.symm ▸ Nat.one_pos)) 0).val < 1 :=
      Fin.isLt _
    show off 0 + 1 * ((Shape.Idx.first (s := (Rect.unit (s := S44) off S1.size inb).shape) (h1.symm ▸ Nat.one_pos)) 0).val = (i 0).val
    omega

/-- What an index map reads of table 0 at tile `i 0`: the tile's expert number. -/
theorem at0 (i : grid0.Coords) (off : Fin 1 → ℕ) (inb : ∀ a, off a + S1.size a ≤ S44.size a)
    (h1 : (Rect.unit (s := S44) off S1.size inb).shape.numel = 1) (hoff : off 0 = (i 0).val) :
    (show BitVec 32 from (tbl m).at 0 (Rect.unit (s := S44) off S1.size inb) h1).toNat = te m (i 0) := by
  show (show BitVec 32 from V m 0 main_arg0 _).toNat = _
  rw [V_main_arg0]
  exact congrArg (fun z : S44.Idx => (show BitVec 32 from m (((0 : Dev nD) : Thread nD τ).loc main_arg0) z).toNat)
    (unit_first i off inb h1 hoff)

/-- What an index map reads of table 1 at tile `i 0`: the tile's validity flag. -/
theorem at1 (i : grid0.Coords) (off : Fin 1 → ℕ) (inb : ∀ a, off a + S1.size a ≤ S44.size a)
    (h1 : (Rect.unit (s := S44) off S1.size inb).shape.numel = 1) (hoff : off 0 = (i 0).val) :
    (show BitVec 32 from (tbl m).at 1 (Rect.unit (s := S44) off S1.size inb) h1).toNat = tv m (i 0) := by
  show (show BitVec 32 from V m 0 main_arg1 _).toNat = _
  rw [V_main_arg1]
  exact congrArg (fun z : S44.Idx => (show BitVec 32 from m (((0 : Dev nD) : Thread nD τ).loc main_arg1) z).toNat)
    (unit_first i off inb h1 hoff)

/-- A step number times a flag of zero or one, in 32-bit words, is the product of the numbers. -/
theorem toNat_muli (n : ℕ) (hn : n < 14) (w : BitVec 32) (hw : w.toNat ≤ 1) :
    (Scalar.muli (BitVec.ofNat 32 n) w).toNat = n * w.toNat := by
  unfold Scalar.muli IntOp.muli
  rw [BitVec.toNat_mul, BitVec.toNat_ofNat, Nat.mod_eq_of_lt (a := n) (by omega)]
  refine Nat.mod_eq_of_lt (lt_of_le_of_lt (Nat.mul_le_mul_left n hw) (by omega))

/-- The gate weights' block at a grid point: expert `te`, all rows, column block the step times the flag. -/
theorem index1 (i : grid0.Coords) (hv : tv m (i 0) ≤ 1) :
    cc0_transform_1 k0_off1_inb numel1_S1 (tbl m) i = ![te m (i 0), 0, (i 1).val * tv m (i 0)] := by
  have h0 := at0 m i ![(Scalar.indexCast (BitVec.ofNat 32 (i 0).val) : Index).toNat] (k0_off1_inb i) numel1_S1
    (toNat_indexCast _ (by have := coord0_lt i; omega))
  have h1 := at1 m i ![(Scalar.indexCast (BitVec.ofNat 32 (i 0).val) : Index).toNat] (k0_off1_inb i) numel1_S1
    (toNat_indexCast _ (by have := coord0_lt i; omega))
  have h2 := toNat_muli (i 1).val (coord1_lt i) _ (h1.le.trans hv)
  rw [h1] at h2
  unfold cc0_transform_1
  dsimp only
  exact congrArg₂ (fun a b => ![a, 0, b]) h0 h2

/-- The up weights' block at a grid point: the same. -/
theorem index2 (i : grid0.Coords) (hv : tv m (i 0) ≤ 1) :
    cc0_transform_2 k0_off1_inb numel1_S1 (tbl m) i = ![te m (i 0), 0, (i 1).val * tv m (i 0)] :=
  index1 m i hv

/-- The down weights' block at a grid point: expert `te`, row block the step times the flag, all columns. -/
theorem index3 (i : grid0.Coords) (hv : tv m (i 0) ≤ 1) :
    cc0_transform_3 k0_off1_inb numel1_S1 (tbl m) i = ![te m (i 0), (i 1).val * tv m (i 0), 0] := by
  have h0 := at0 m i ![(Scalar.indexCast (BitVec.ofNat 32 (i 0).val) : Index).toNat] (k0_off1_inb i) numel1_S1
    (toNat_indexCast _ (by have := coord0_lt i; omega))
  have h1 := at1 m i ![(Scalar.indexCast (BitVec.ofNat 32 (i 0).val) : Index).toNat] (k0_off1_inb i) numel1_S1
    (toNat_indexCast _ (by have := coord0_lt i; omega))
  have h2 := toNat_muli (i 1).val (coord1_lt i) _ (h1.le.trans hv)
  rw [h1] at h2
  unfold cc0_transform_3
  dsimp only
  exact congrArg₂ (fun a b => ![a, b, 0]) h0 h2

/-- Tables in range put every block the weight windows name inside its array. -/
theorem ok_of_range (h : ∀ k, te m k < 8 ∧ tv m k ≤ 1) : Ok m := by
  have hf : ∀ i : grid0.Coords, (i 1).val * tv m (i 0) ≤ 13 := fun i =>
    (Nat.mul_le_mul (Nat.le_of_lt_succ (coord1_lt i)) (h (i 0)).2).trans (by decide)
  refine ⟨fun i => ⟨?_, .inr (Affine.block_words_dvd (of_decide_eq_true rfl) (by decide))⟩,
    fun i => ⟨?_, .inr (Affine.block_words_dvd (of_decide_eq_true rfl) (by decide))⟩,
    fun i => ⟨?_, .inr (Affine.block_words_dvd (of_decide_eq_true rfl) (by decide))⟩⟩
  · rw [index1 m i (h (i 0)).2]
    have h1 := (h (i 0)).1
    have h2 := hf i
    intro a
    match a with
    | ⟨0, _⟩ => show (te m (i 0) + 1) * 1 ≤ 8; omega
    | ⟨1, _⟩ => show (0 + 1) * 2048 ≤ 2048; omega
    | ⟨2, _⟩ => show ((i 1).val * tv m (i 0) + 1) * 512 ≤ 7168; omega
  · rw [index2 m i (h (i 0)).2]
    have h1 := (h (i 0)).1
    have h2 := hf i
    intro a
    match a with
    | ⟨0, _⟩ => show (te m (i 0) + 1) * 1 ≤ 8; omega
    | ⟨1, _⟩ => show (0 + 1) * 2048 ≤ 2048; omega
    | ⟨2, _⟩ => show ((i 1).val * tv m (i 0) + 1) * 512 ≤ 7168; omega
  · rw [index3 m i (h (i 0)).2]
    have h1 := (h (i 0)).1
    have h2 := hf i
    intro a
    match a with
    | ⟨0, _⟩ => show (te m (i 0) + 1) * 1 ≤ 8; omega
    | ⟨1, _⟩ => show ((i 1).val * tv m (i 0) + 1) * 512 ≤ 7168; omega
    | ⟨2, _⟩ => show (0 + 1) * 2048 ≤ 2048; omega

end

/-- The precondition implies the pipeline's side condition of the tables. -/
theorem ok_of_pre (m : (ℓ : Loc nD τ sig) → Buf (Elt Ideal) ℓ) (h : Cert.Pre_KernelIdeal m) : Ok m :=
  ok_of_range m (te_tv_of_pre m h)

end Cert.KernelIdeal.Tables

end

end
-- ==== Proof.ExpertCases.lean ====
/- What the expert feed-forward's body leaves in its scratch accumulator and its output block, case by case. -/
module

public import proofs.«01_k».proof.Proof.TablesIdeal
public import Idealize.ShloMosaic.Lib.Pipeline.ValueKit
public import Idealize.ShloMosaic.Lib.Pointwise

@[expose] public section

set_option maxRecDepth 16384

noncomputable section

namespace Cert.KernelIdeal.Expert

open Cert.KernelIdeal Cert.KernelIdeal.Gen Cert.KernelIdeal.Tables
open Idealize.ShloMosaic Idealize.ShloMosaic.TcCoe Idealize.SL.Sem
open Idealize.ShloMosaic.Pipeline (Dat)

section
variable {F : FTy → Type} [FloatOps F]

/-- The accumulator after a first step, valid tile, over the staged blocks. -/
theorem sout_A (c : Dev nD) (i : grid0.Coords) (arg4 : Memref sig .tc .vmem S512x2048 .bf16) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S512x1 .f32) (harg8 : arg8.IsWhole) (arg9 : Memref sig .tc .vmem S512x2048 .f32) (harg9 : arg9.IsWhole) (arg10 : Memref sig .tc .vmem S512x2048 .f32) (harg10 : arg10.IsWhole) (hc0 : cond0_0 i) (hc2 : ¬cond0_2 i)
    (x0 : Vec F S512x2048 .bf16) (x1 : Vec F S1x2048x512 .bf16) (x2 : Vec F S1x2048x512 .bf16) (x3 : Vec F S1x512x2048 .bf16) (x4 : Vec F S512x1 .f32) (xt0 : TbBuf0 (F := F) c tbM0_0) (xt1 : TbBuf0 (F := F) c tbM0_1) (hc1 : cond0_1 i (tbM0_1.view.readAt (Elt F) (Rect.unit (s := S44) (k0_off1 i) S1.size (k0_off1_inb i)).toLoadRect xt1 (Shape.Idx.first (numel1_S1.symm ▸ Nat.one_pos)))) :
    sout0_A_0 c i arg4 harg4 arg5 harg5 arg6 harg6 arg7 harg7 arg8 harg8 arg9 harg9 arg10 harg10 hc0 hc2 x0 x1 x2 x3 x4 xt0 xt1 hc1 = k0_pay2 x0 x1 x2 k0_pay1 x3 := by
  frame_out
  all_goals simp only [Memref.IsWhole.read_unread]

/-- The accumulator after a first step, invalid tile, over the staged blocks. -/
theorem sout_B (c : Dev nD) (i : grid0.Coords) (arg4 : Memref sig .tc .vmem S512x2048 .bf16) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S512x1 .f32) (harg8 : arg8.IsWhole) (arg9 : Memref sig .tc .vmem S512x2048 .f32) (harg9 : arg9.IsWhole) (arg10 : Memref sig .tc .vmem S512x2048 .f32) (harg10 : arg10.IsWhole) (hc0 : cond0_0 i) (hc2 : ¬cond0_2 i)
    (x0 : Vec F S512x2048 .bf16) (x1 : Vec F S1x2048x512 .bf16) (x2 : Vec F S1x2048x512 .bf16) (x3 : Vec F S1x512x2048 .bf16) (x4 : Vec F S512x1 .f32) (xt0 : TbBuf0 (F := F) c tbM0_0) (xt1 : TbBuf0 (F := F) c tbM0_1) (hc1 : ¬cond0_1 i (tbM0_1.view.readAt (Elt F) (Rect.unit (s := S44) (k0_off1 i) S1.size (k0_off1_inb i)).toLoadRect xt1 (Shape.Idx.first (numel1_S1.symm ▸ Nat.one_pos)))) :
    sout0_B_0 c i arg4 harg4 arg5 harg5 arg6 harg6 arg7 harg7 arg8 harg8 arg9 harg9 arg10 harg10 hc0 hc2 x0 x1 x2 x3 x4 xt0 xt1 hc1 = k0_pay1 := by
  frame_out
  all_goals simp only [Memref.IsWhole.read_unread]

/-- The accumulator after a middle step, valid tile, over the staged blocks. -/
theorem sout_C (c : Dev nD) (i : grid0.Coords) (arg4 : Memref sig .tc .vmem S512x2048 .bf16) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S512x1 .f32) (harg8 : arg8.IsWhole) (arg9 : Memref sig .tc .vmem S512x2048 .f32) (harg9 : arg9.IsWhole) (arg10 : Memref sig .tc .vmem S512x2048 .f32) (harg10 : arg10.IsWhole) (hc0 : ¬cond0_0 i) (hc2 : ¬cond0_2 i)
    (x0 : Vec F S512x2048 .bf16) (x1 : Vec F S1x2048x512 .bf16) (x2 : Vec F S1x2048x512 .bf16) (x3 : Vec F S1x512x2048 .bf16) (x4 : Vec F S512x1 .f32) (xt0 : TbBuf0 (F := F) c tbM0_0) (xt1 : TbBuf0 (F := F) c tbM0_1) (xs0 : Vec F S512x2048 .f32) (hc1 : cond0_1 i (tbM0_1.view.readAt (Elt F) (Rect.unit (s := S44) (k0_off1 i) S1.size (k0_off1_inb i)).toLoadRect xt1 (Shape.Idx.first (numel1_S1.symm ▸ Nat.one_pos)))) :
    sout0_C_0 c i arg4 harg4 arg5 harg5 arg6 harg6 arg7 harg7 arg8 harg8 arg9 harg9 arg10 harg10 hc0 hc2 x0 x1 x2 x3 x4 xt0 xt1 xs0 hc1 = k0_pay2 x0 x1 x2 xs0 x3 := by
  frame_out
  all_goals simp only [Memref.IsWhole.read_unread]

/-- The accumulator after a last step, valid tile, over the staged blocks. -/
theorem sout_E (c : Dev nD) (i : grid0.Coords) (arg4 : Memref sig .tc .vmem S512x2048 .bf16) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S512x1 .f32) (harg8 : arg8.IsWhole) (arg9 : Memref sig .tc .vmem S512x2048 .f32) (harg9 : arg9.IsWhole) (arg10 : Memref sig .tc .vmem S512x2048 .f32) (harg10 : arg10.IsWhole) (hc0 : ¬cond0_0 i) (hc2 : cond0_2 i)
    (x0 : Vec F S512x2048 .bf16) (x1 : Vec F S1x2048x512 .bf16) (x2 : Vec F S1x2048x512 .bf16) (x3 : Vec F S1x512x2048 .bf16) (x4 : Vec F S512x1 .f32) (xt0 : TbBuf0 (F := F) c tbM0_0) (xt1 : TbBuf0 (F := F) c tbM0_1) (xs0 : Vec F S512x2048 .f32) (hc1 : cond0_1 i (tbM0_1.view.readAt (Elt F) (Rect.unit (s := S44) (k0_off1 i) S1.size (k0_off1_inb i)).toLoadRect xt1 (Shape.Idx.first (numel1_S1.symm ▸ Nat.one_pos)))) :
    sout0_E_0 c i arg4 harg4 arg5 harg5 arg6 harg6 arg7 harg7 arg8 harg8 arg9 harg9 arg10 harg10 hc0 hc2 x0 x1 x2 x3 x4 xt0 xt1 xs0 hc1 = k0_pay2 x0 x1 x2 xs0 x3 := by
  frame_out
  all_goals simp only [Memref.IsWhole.read_unread]

/-- The output block after a last step, valid tile, over the staged blocks. -/
theorem bout_E (c : Dev nD) (i : grid0.Coords) (arg4 : Memref sig .tc .vmem S512x2048 .bf16) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S512x1 .f32) (harg8 : arg8.IsWhole) (arg9 : Memref sig .tc .vmem S512x2048 .f32) (harg9 : arg9.IsWhole) (arg10 : Memref sig .tc .vmem S512x2048 .f32) (harg10 : arg10.IsWhole) (hc0 : ¬cond0_0 i) (hc2 : cond0_2 i)
    (x0 : Vec F S512x2048 .bf16) (x1 : Vec F S1x2048x512 .bf16) (x2 : Vec F S1x2048x512 .bf16) (x3 : Vec F S1x512x2048 .bf16) (x4 : Vec F S512x1 .f32) (xt0 : TbBuf0 (F := F) c tbM0_0) (xt1 : TbBuf0 (F := F) c tbM0_1) (xs0 : Vec F S512x2048 .f32) (hc1 : cond0_1 i (tbM0_1.view.readAt (Elt F) (Rect.unit (s := S44) (k0_off1 i) S1.size (k0_off1_inb i)).toLoadRect xt1 (Shape.Idx.first (numel1_S1.symm ▸ Nat.one_pos)))) :
    out0_E_5 c i arg4 harg4 arg5 harg5 arg6 harg6 arg7 harg7 arg8 harg8 arg9 harg9 arg10 harg10 hc0 hc2 x0 x1 x2 x3 x4 xt0 xt1 xs0 hc1 = k0_pay3 (k0_pay2 x0 x1 x2 xs0 x3) x4 := by
  frame_out
  all_goals simp only [Memref.IsWhole.read_unread]

/-- The output block after a last step, invalid tile, over the staged blocks. -/
theorem bout_F (c : Dev nD) (i : grid0.Coords) (arg4 : Memref sig .tc .vmem S512x2048 .bf16) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S512x1 .f32) (harg8 : arg8.IsWhole) (arg9 : Memref sig .tc .vmem S512x2048 .f32) (harg9 : arg9.IsWhole) (arg10 : Memref sig .tc .vmem S512x2048 .f32) (harg10 : arg10.IsWhole) (hc0 : ¬cond0_0 i) (hc2 : cond0_2 i)
    (x0 : Vec F S512x2048 .bf16) (x1 : Vec F S1x2048x512 .bf16) (x2 : Vec F S1x2048x512 .bf16) (x3 : Vec F S1x512x2048 .bf16) (x4 : Vec F S512x1 .f32) (xt0 : TbBuf0 (F := F) c tbM0_0) (xt1 : TbBuf0 (F := F) c tbM0_1) (xs0 : Vec F S512x2048 .f32) (hc1 : ¬cond0_1 i (tbM0_1.view.readAt (Elt F) (Rect.unit (s := S44) (k0_off1 i) S1.size (k0_off1_inb i)).toLoadRect xt1 (Shape.Idx.first (numel1_S1.symm ▸ Nat.one_pos)))) :
    out0_F_5 c i arg4 harg4 arg5 harg5 arg6 harg6 arg7 harg7 arg8 harg8 arg9 harg9 arg10 harg10 hc0 hc2 x0 x1 x2 x3 x4 xt0 xt1 xs0 hc1 = k0_pay3 xs0 x4 := by
  frame_out
  all_goals simp only [Memref.IsWhole.read_unread]

end

end Cert.KernelIdeal.Expert

end

end
-- ==== Proof.ExpertBlocks.lean ====
/- What the expert feed-forward's body leaves in its scratch accumulator and its output block, case by case. -/
module

public import proofs.«01_k».proof.Proof.ExpertCases
import proofs.«01_k».proof.Proof.TablesIdeal
public import Idealize.ShloMosaic.Lib.Pipeline.ValueKit
public import Idealize.ShloMosaic.Lib.Pointwise

@[expose] public section

set_option maxRecDepth 16384

noncomputable section

namespace Cert.KernelIdeal.Expert

open Cert.KernelIdeal Cert.KernelIdeal.Gen Cert.KernelIdeal.Tables
open Idealize.ShloMosaic Idealize.ShloMosaic.TcCoe Idealize.SL.Sem
open Idealize.ShloMosaic.Pipeline (Dat)

variable (m : (ℓ : Loc nD τ sig) → Buf (Elt Ideal) ℓ) (hO : Ok m)

/-- The condition the body reads off the validity table at grid point `i`. -/
abbrev Valid (i : grid0.Coords) : Prop :=
  cond0_1 i (tbM0_1.view.readAt (Elt Ideal) (Rect.unit (s := S44) (k0_off1 i) S1.size (k0_off1_inb i)).toLoadRect (tbl m 1) (Shape.Idx.first (numel1_S1.symm ▸ Nat.one_pos)))

/-- What the point before `t` left in the accumulator. -/
abbrev prev (c : Dev nD) (t : Fin (cfgM m hO).N) : Vec Ideal S512x2048 .f32 :=
  (outsAt0 m hO c (t.val - 1) (lt_of_le_of_lt (Nat.sub_le _ _) t.isLt)).2

/-- The accumulator after a valid tile's step: the step's block product added to `acc`. -/
abbrev step (c : Dev nD) (t : Fin (cfgM m hO).N) (acc : FVec Ideal S512x2048 .f32) : FVec Ideal S512x2048 .f32 :=
  k0_pay2 (F := Ideal) (iblk m hO c 0 t) (iblk m hO c 1 t) (iblk m hO c 2 t) acc (iblk m hO c 3 t)

/-- First step of a valid tile: the accumulator holds the step from zero. -/
theorem acc_A (c : Dev nD) (t : Fin (cfgM m hO).N) (h0 : t.val % 14 = 0) (h1 : Valid m (grid0.coords t)) (h2 : ¬t.val % 14 = 13) :
    (outsAt0 m hO c t.val t.isLt).2 = step m hO c t (k0_pay1 (F := Ideal)) := by
  rw [outsAt0_A m hO c t h0 h1 h2]
  dsimp only
  exact sout_A (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) ((hcond0_0 t).mpr h0) (fun h => h2 ((hcond0_2 t).mp h)) (iblk m hO c 0 t) (iblk m hO c 1 t) (iblk m hO c 2 t) (iblk m hO c 3 t) (iblk m hO c 4 t) (tbl m 0) (tbl m 1) h1

/-- First step of an invalid tile: the accumulator holds zero. -/
theorem acc_B (c : Dev nD) (t : Fin (cfgM m hO).N) (h0 : t.val % 14 = 0) (h1 : ¬Valid m (grid0.coords t)) (h2 : ¬t.val % 14 = 13) :
    (outsAt0 m hO c t.val t.isLt).2 = (k0_pay1 (F := Ideal)) := by
  rw [outsAt0_B m hO c t h0 h1 h2]
  dsimp only
  exact sout_B (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) ((hcond0_0 t).mpr h0) (fun h => h2 ((hcond0_2 t).mp h)) (iblk m hO c 0 t) (iblk m hO c 1 t) (iblk m hO c 2 t) (iblk m hO c 3 t) (iblk m hO c 4 t) (tbl m 0) (tbl m 1) h1

/-- A middle step of a valid tile adds to the accumulator. -/
theorem acc_C (c : Dev nD) (t : Fin (cfgM m hO).N) (h0 : ¬t.val % 14 = 0) (h1 : Valid m (grid0.coords t)) (h2 : ¬t.val % 14 = 13) :
    (outsAt0 m hO c t.val t.isLt).2 = step m hO c t (prev m hO c t) := by
  rw [outsAt0_C m hO c t h0 h1 h2]
  dsimp only
  exact sout_C (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (tbl m 0) (tbl m 1) (prev m hO c t) h1

/-- A middle step of an invalid tile leaves the accumulator. -/
theorem acc_D (c : Dev nD) (t : Fin (cfgM m hO).N) (h0 : ¬t.val % 14 = 0) (h1 : ¬Valid m (grid0.coords t)) (h2 : ¬t.val % 14 = 13) :
    (outsAt0 m hO c t.val t.isLt).2 = prev m hO c t := by
  rw [outsAt0_D m hO c t h0 h1 h2]
  rfl

/-- The last step of a valid tile adds to the accumulator. -/
theorem acc_E (c : Dev nD) (t : Fin (cfgM m hO).N) (h0 : ¬t.val % 14 = 0) (h1 : Valid m (grid0.coords t)) (h2 : t.val % 14 = 13) :
    (outsAt0 m hO c t.val t.isLt).2 = step m hO c t (prev m hO c t) := by
  rw [outsAt0_E m hO c t h0 h1 h2]
  dsimp only
  exact sout_E (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (fun h => h0 ((hcond0_0 t).mp h)) ((hcond0_2 t).mpr h2) (iblk m hO c 0 t) (iblk m hO c 1 t) (iblk m hO c 2 t) (iblk m hO c 3 t) (iblk m hO c 4 t) (tbl m 0) (tbl m 1) (prev m hO c t) h1

/-- The last step of an invalid tile leaves the accumulator. -/
theorem acc_F (c : Dev nD) (t : Fin (cfgM m hO).N) (h0 : ¬t.val % 14 = 0) (h1 : ¬Valid m (grid0.coords t)) (h2 : t.val % 14 = 13) :
    (outsAt0 m hO c t.val t.isLt).2 = prev m hO c t := by
  rw [outsAt0_F m hO c t h0 h1 h2]
  rfl

/-- The last step of a valid tile stores the accumulator times the gate. -/
theorem out_E (c : Dev nD) (t : Fin (cfgM m hO).N) (h0 : ¬t.val % 14 = 0) (h1 : Valid m (grid0.coords t)) (h2 : t.val % 14 = 13) :
    (outsAt0 m hO c t.val t.isLt).1 = k0_pay3 (F := Ideal) (step m hO c t (prev m hO c t)) (iblk m hO c 4 t) := by
  rw [outsAt0_E m hO c t h0 h1 h2]
  dsimp only
  exact bout_E (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (fun h => h0 ((hcond0_0 t).mp h)) ((hcond0_2 t).mpr h2) (iblk m hO c 0 t) (iblk m hO c 1 t) (iblk m hO c 2 t) (iblk m hO c 3 t) (iblk m hO c 4 t) (tbl m 0) (tbl m 1) (prev m hO c t) h1

/-- The last step of an invalid tile stores the accumulator times the gate. -/
theorem out_F (c : Dev nD) (t : Fin (cfgM m hO).N) (h0 : ¬t.val % 14 = 0) (h1 : ¬Valid m (grid0.coords t)) (h2 : t.val % 14 = 13) :
    (outsAt0 m hO c t.val t.isLt).1 = k0_pay3 (F := Ideal) (prev m hO c t) (iblk m hO c 4 t) := by
  rw [outsAt0_F m hO c t h0 h1 h2]
  dsimp only
  exact bout_F (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (fun h => h0 ((hcond0_0 t).mp h)) ((hcond0_2 t).mpr h2) (iblk m hO c 0 t) (iblk m hO c 1 t) (iblk m hO c 2 t) (iblk m hO c 3 t) (iblk m hO c 4 t) (tbl m 0) (tbl m 1) (prev m hO c t) h1

end Cert.KernelIdeal.Expert

end

end
-- ==== Proof.ExpertReads.lean ====
/- What the expert feed-forward's input windows hold at a grid point, in terms of the launch memory's arguments. -/
module

public import proofs.«01_k».proof.Proof.ExpertPoint
public import proofs.«01_k».proof.Proof.ExpertBlocks
public import proofs.«01_k».proof.Proof.TablesIdeal
public import Idealize.ShloMosaic.Lib.Claim

@[expose] public section

set_option maxRecDepth 16384

noncomputable section

namespace Cert.KernelIdeal.Expert

open Cert.KernelIdeal Cert.KernelIdeal.Gen Cert.KernelIdeal.Tables Cert.Expert
open Idealize.ShloMosaic Idealize.ShloMosaic.TcCoe

variable (m : (ℓ : Loc nD τ sig) → Buf (Elt Ideal) ℓ) (hO : Ok m)

/-- The gate weights as the region finds them: the argument without its leading axis. -/
theorem entry_gate (c : Dev nD) (e : Fin 8) (d : Fin 2048) (j : Fin 7168) :
    (V m c main_v1 (ix3 e d j : S8x2048x7168.Idx) : EReal) = m ((c : Thread nD τ).loc main_arg3) (ix4 0 e d j : S1x8x2048x7168.Idx) := by
  entry_read
  pointwise

/-- The up weights as the region finds them. -/
theorem entry_up (c : Dev nD) (e : Fin 8) (d : Fin 2048) (j : Fin 7168) :
    (V m c main_v3 (ix3 e d j : S8x2048x7168.Idx) : EReal) = m ((c : Thread nD τ).loc main_arg4) (ix4 0 e d j : S1x8x2048x7168.Idx) := by
  entry_read
  pointwise

/-- The down weights as the region finds them. -/
theorem entry_down (c : Dev nD) (e : Fin 8) (j : Fin 7168) (l : Fin 2048) :
    (V m c main_v5 (ix3 e j l : S8x7168x2048.Idx) : EReal) = m ((c : Thread nD τ).loc main_arg5) (ix4 0 e j l : S1x8x7168x2048.Idx) := by
  entry_read
  pointwise

/-- The slots' gates as the region finds them. -/
theorem entry_slot (c : Dev nD) (s : Fin 22528) :
    (V m c main_v6 (ix2 s 0 : S22528x1.Idx) : EReal) = m ((c : Thread nD τ).loc main_arg6) (ix1 s : S22528.Idx) := by
  entry_read
  pointwise

/-- The grid point `t` is step `t % 14` of tile `t / 14`. -/
theorem coords_at : ∀ t : Fin grid0.N, (grid0.coords t 0).val = t.val / 14 ∧ (grid0.coords t 1).val = t.val % 14 := by
  decide +kernel

/-- The condition on the validity table at tile `k` says that its flag is not zero. -/
theorem valid_iff (i : grid0.Coords) (hv : tv m (i 0) ≤ 1) : Valid m i ↔ tv m (i 0) = 1 := by
  have h1 := at1 m i ![(Scalar.indexCast (BitVec.ofNat 32 (i 0).val) : Index).toNat] (k0_off1_inb i) numel1_S1
    (toNat_indexCast _ (by have := coord0_lt i; omega))
  have h2 : tv m (i 0) = 0 ∨ tv m (i 0) = 1 := by omega
  have key : ∀ w : BitVec 32, w.toNat = tv m (i 0) → (cond0_1 i w ↔ tv m (i 0) = 1) := by
    intro w hw
    rcases h2 with h | h
    · have hw0 : w = 0#32 := BitVec.eq_of_toNat_eq (by rw [hw, h]; rfl)
      subst hw0
      rw [h]; unfold cond0_1; decide
    · have hw1 : w = 1#32 := BitVec.eq_of_toNat_eq (by rw [hw, h]; rfl)
      subst hw1
      rw [h]; unfold cond0_1; decide
  exact key _ h1

/-- The slots' block at a point: the rows of its tile. -/
theorem block_x (c : Dev nD) (t : Fin (cfgM m hO).N) (r : Fin 512) (l : Fin 2048) (s : Fin 22528)
    (hs : s.val = (grid0.coords t 0).val * 512 + r.val) :
    (show EReal from iblk m hO c 0 t (ix2 r l : S512x2048.Idx)) = (m ((c : Thread nD τ).loc main_arg2) (ix2 s l : S22528x2048.Idx) : EReal) := by
  show V m c main_arg2 ((((cfgM m hO).win 0).blk t).view.emb (ix2 r l : S512x2048.Idx)) = _
  refine (congrArg (V m c main_arg2) (?_ : _ = (ix2 s l : S22528x2048.Idx))).trans (congrFun (V_main_arg2 m c) _)
  funext a
  apply Fin.ext
  refine (Pipeline.Window.rect_emb_val ((cfgM m hO).win 0) t (ix2 r l : S512x2048.Idx) a).trans ?_
  have hi := coord0_lt (grid0.coords t)
  match a with
  | ⟨0, _⟩ =>
    show (BitVec.ofNat 32 (grid0.coords t 0).val).toNat * 512 + r.val = s.val
    rw [BitVec.toNat_ofNat, Nat.mod_eq_of_lt (by omega)]
    exact hs.symm
  | ⟨1, _⟩ => show 0 * 2048 + l.val = l.val; omega

/-- The gate weights' block at a point: the columns of the step, of the expert its tile names. -/
theorem block_gate (c : Dev nD) (t : Fin (cfgM m hO).N) (hv : tv m (grid0.coords t 0) ≤ 1) (d : Fin 2048) (j : Fin 512) (e : Fin 8)
    (he : e.val = te m (grid0.coords t 0)) (j' : Fin 7168)
    (hj : j'.val = ((grid0.coords t 1).val * tv m (grid0.coords t 0)) * 512 + j.val) :
    (show EReal from iblk m hO c 1 t (ix3 0 d j : S1x2048x512.Idx)) = (m ((c : Thread nD τ).loc main_arg3) (ix4 0 e d j' : S1x8x2048x7168.Idx) : EReal) := by
  show V m c main_v1 ((((cfgM m hO).win 1).blk t).view.emb (ix3 0 d j : S1x2048x512.Idx)) = _
  refine (congrArg (V m c main_v1) (?_ : _ = (ix3 e d j' : S8x2048x7168.Idx))).trans (entry_gate m c e d j')
  funext a
  apply Fin.ext
  refine (Pipeline.Window.rect_emb_val ((cfgM m hO).win 1) t (ix3 0 d j : S1x2048x512.Idx) a).trans ?_
  have hidx : ((cfgM m hO).win 1).index t = ![te m (grid0.coords t 0), 0, (grid0.coords t 1).val * tv m (grid0.coords t 0)] :=
    index1 m (grid0.coords t) hv
  rw [hidx]
  match a with
  | ⟨0, _⟩ => show te m (grid0.coords t 0) * 1 + 0 = e.val; omega
  | ⟨1, _⟩ => show 0 * 2048 + d.val = d.val; omega
  | ⟨2, _⟩ => exact hj.symm

/-- The up weights' block at a point: the same columns of the same expert. -/
theorem block_up (c : Dev nD) (t : Fin (cfgM m hO).N) (hv : tv m (grid0.coords t 0) ≤ 1) (d : Fin 2048) (j : Fin 512) (e : Fin 8)
    (he : e.val = te m (grid0.coords t 0)) (j' : Fin 7168)
    (hj : j'.val = ((grid0.coords t 1).val * tv m (grid0.coords t 0)) * 512 + j.val) :
    (show EReal from iblk m hO c 2 t (ix3 0 d j : S1x2048x512.Idx)) = (m ((c : Thread nD τ).loc main_arg4) (ix4 0 e d j' : S1x8x2048x7168.Idx) : EReal) := by
  show V m c main_v3 ((((cfgM m hO).win 2).blk t).view.emb (ix3 0 d j : S1x2048x512.Idx)) = _
  refine (congrArg (V m c main_v3) (?_ : _ = (ix3 e d j' : S8x2048x7168.Idx))).trans (entry_up m c e d j')
  funext a
  apply Fin.ext
  refine (Pipeline.Window.rect_emb_val ((cfgM m hO).win 2) t (ix3 0 d j : S1x2048x512.Idx) a).trans ?_
  have hidx : ((cfgM m hO).win 2).index t = ![te m (grid0.coords t 0), 0, (grid0.coords t 1).val * tv m (grid0.coords t 0)] :=
    index2 m (grid0.coords t) hv
  rw [hidx]
  match a with
  | ⟨0, _⟩ => show te m (grid0.coords t 0) * 1 + 0 = e.val; omega
  | ⟨1, _⟩ => show 0 * 2048 + d.val = d.val; omega
  | ⟨2, _⟩ => exact hj.symm

/-- The down weights' block at a point: the rows of the step, of the expert its tile names. -/
theorem block_down (c : Dev nD) (t : Fin (cfgM m hO).N) (hv : tv m (grid0.coords t 0) ≤ 1) (j : Fin 512) (l : Fin 2048) (e : Fin 8)
    (he : e.val = te m (grid0.coords t 0)) (j' : Fin 7168)
    (hj : j'.val = ((grid0.coords t 1).val * tv m (grid0.coords t 0)) * 512 + j.val) :
    (show EReal from iblk m hO c 3 t (ix3 0 j l : S1x512x2048.Idx)) = (m ((c : Thread nD τ).loc main_arg5) (ix4 0 e j' l : S1x8x7168x2048.Idx) : EReal) := by
  show V m c main_v5 ((((cfgM m hO).win 3).blk t).view.emb (ix3 0 j l : S1x512x2048.Idx)) = _
  refine (congrArg (V m c main_v5) (?_ : _ = (ix3 e j' l : S8x7168x2048.Idx))).trans (entry_down m c e j' l)
  funext a
  apply Fin.ext
  refine (Pipeline.Window.rect_emb_val ((cfgM m hO).win 3) t (ix3 0 j l : S1x512x2048.Idx) a).trans ?_
  have hidx : ((cfgM m hO).win 3).index t = ![te m (grid0.coords t 0), (grid0.coords t 1).val * tv m (grid0.coords t 0), 0] :=
    index3 m (grid0.coords t) hv
  rw [hidx]
  match a with
  | ⟨0, _⟩ => show te m (grid0.coords t 0) * 1 + 0 = e.val; omega
  | ⟨1, _⟩ => exact hj.symm
  | ⟨2, _⟩ => show 0 * 2048 + l.val = l.val; omega

/-- The gates' block at a point: the gates of the rows of its tile. -/
theorem block_slot (c : Dev nD) (t : Fin (cfgM m hO).N) (r : Fin 512) (s : Fin 22528)
    (hs : s.val = (grid0.coords t 0).val * 512 + r.val) :
    (show EReal from iblk m hO c 4 t (ix2 r 0 : S512x1.Idx)) = (m ((c : Thread nD τ).loc main_arg6) (ix1 s : S22528.Idx) : EReal) := by
  show V m c main_v6 ((((cfgM m hO).win 4).blk t).view.emb (ix2 r 0 : S512x1.Idx)) = _
  refine (congrArg (V m c main_v6) (?_ : _ = (ix2 s 0 : S22528x1.Idx))).trans (entry_slot m c s)
  funext a
  apply Fin.ext
  refine (Pipeline.Window.rect_emb_val ((cfgM m hO).win 4) t (ix2 r 0 : S512x1.Idx) a).trans ?_
  have hi := coord0_lt (grid0.coords t)
  match a with
  | ⟨0, _⟩ =>
    show (BitVec.ofNat 32 (grid0.coords t 0).val).toNat * 512 + r.val = s.val
    rw [BitVec.toNat_ofNat, Nat.mod_eq_of_lt (by omega)]
    exact hs.symm
  | ⟨1, _⟩ => rfl

end Cert.KernelIdeal.Expert

end

end
-- ==== Proof.ExpertValue.lean ====
/- The value of the expert feed-forward: what its output array holds after the run, slot by slot and column by column. -/
module

public import proofs.«01_k».proof.Proof.ExpertReads

@[expose] public section

set_option maxRecDepth 16384

noncomputable section

namespace Cert.KernelIdeal.Expert

open Cert.KernelIdeal Cert.KernelIdeal.Gen Cert.KernelIdeal.Tables Cert.Expert
open Idealize.ShloMosaic Idealize.ShloMosaic.TcCoe Idealize.ShloMosaic.Pipeline

variable (m : (ℓ : Loc nD τ sig) → Buf (Elt Ideal) ℓ) (hO : Ok m)

/-- The argument of the slots' rows at slot `s`, feature `d`. -/
def argX (c : Dev nD) (s : Fin 22528) (d : Fin 2048) : EReal := m ((c : Thread nD τ).loc main_arg2) (ix2 s d : S22528x2048.Idx)

/-- The argument of the gate weights at expert `e`, feature `d`, hidden column `j`. -/
def argGate (c : Dev nD) (e : Fin 8) (d : Fin 2048) (j : Fin 7168) : EReal := m ((c : Thread nD τ).loc main_arg3) (ix4 0 e d j : S1x8x2048x7168.Idx)

/-- The argument of the up weights at expert `e`, feature `d`, hidden column `j`. -/
def argUp (c : Dev nD) (e : Fin 8) (d : Fin 2048) (j : Fin 7168) : EReal := m ((c : Thread nD τ).loc main_arg4) (ix4 0 e d j : S1x8x2048x7168.Idx)

/-- The argument of the down weights at expert `e`, hidden column `j`, column `l`. -/
def argDown (c : Dev nD) (e : Fin 8) (j : Fin 7168) (l : Fin 2048) : EReal := m ((c : Thread nD τ).loc main_arg5) (ix4 0 e j l : S1x8x7168x2048.Idx)

/-- The argument of the slots' gates at slot `s`. -/
def argSlot (c : Dev nD) (s : Fin 22528) : EReal := m ((c : Thread nD τ).loc main_arg6) (ix1 s : S22528.Idx)

/-- One hidden column's share of expert `e`'s output for slot `s` at column `l`. -/
def share (c : Dev nD) (e : Fin 8) (s : Fin 22528) (l : Fin 2048) (j : Fin 7168) : EReal :=
  gated (∑ d : Fin 2048, argX m c s d * argGate m c e d j) (∑ d : Fin 2048, argX m c s d * argUp m c e d j) * argDown m c e j l

/-- What the step at point `t` adds to the accumulator at row `r`, column `l`, if the tile is valid. -/
def blockSum (c : Dev nD) (t : Fin (cfgM m hO).N) (r : Fin 512) (l : Fin 2048) : EReal :=
  ∑ j : Fin 512, gated (∑ d : Fin 2048, (show EReal from iblk m hO c 0 t (ix2 r d : S512x2048.Idx)) * (show EReal from iblk m hO c 1 t (ix3 0 d j : S1x2048x512.Idx)))
      (∑ d : Fin 2048, (show EReal from iblk m hO c 0 t (ix2 r d : S512x2048.Idx)) * (show EReal from iblk m hO c 2 t (ix3 0 d j : S1x2048x512.Idx)))
    * (show EReal from iblk m hO c 3 t (ix3 0 j l : S1x512x2048.Idx))

/-- What the step at point `t` adds to the accumulator. -/
def term (c : Dev nD) (r : Fin 512) (l : Fin 2048) (t : Fin (cfgM m hO).N) : EReal :=
  if tv m (grid0.coords t 0) = 1 then blockSum m hO c t r l else 0

/-- A valid tile's step at an element. -/
theorem step_at (c : Dev nD) (t : Fin (cfgM m hO).N) (acc : FVec Ideal S512x2048 .f32) (r : Fin 512) (l : Fin 2048) :
    step m hO c t acc (ix2 r l) = (acc (ix2 r l) : EReal) + blockSum m hO c t r l :=
  pay2_at (iblk m hO c 0 t) (iblk m hO c 1 t) (iblk m hO c 2 t) acc (iblk m hO c 3 t) r l

/-- The accumulator after the last step of a tile: the sum of the fourteen steps' terms. -/
theorem acc_sum (hr : ∀ k, te m k < 8 ∧ tv m k ≤ 1) (c : Dev nD) (r : Fin 512) (l : Fin 2048) (t : Fin (cfgM m hO).N) (ht : t.val % 14 = 14 - 1) :
    ((outsAt0 m hO c t.val t.isLt).2 (ix2 r l) : EReal)
      = ∑ s : Fin 14, term m hO c r l ⟨14 * (t.val / 14) + s.val, run_point_lt_of_flush t ht s⟩ := by
  have e := eq_sum_fin_of_reset_step_of_flush
    (fun n hn => ((outsAt0 m hO c n hn).2 (ix2 r l) : EReal)) 14 (0 : EReal) (term m hO c r l)
    (fun t h0 => by
      have hv := (hr (grid0.coords t 0)).2
      have h2 : ¬t.val % 14 = 13 := by omega
      by_cases h1 : Valid m (grid0.coords t)
      · refine (congrFun (acc_A m hO c t h0 h1 h2) (ix2 r l)).trans ?_
        rw [term, if_pos ((valid_iff m _ hv).mp h1)]
        refine (step_at m hO c t _ r l).trans ?_
        rw [pay1_at]
      · refine (congrFun (acc_B m hO c t h0 h1 h2) (ix2 r l)).trans ?_
        rw [term, if_neg (fun h => h1 ((valid_iff m _ hv).mpr h)), add_zero]
        exact pay1_at r l)
    (fun t h0 => by
      have hv := (hr (grid0.coords t 0)).2
      by_cases h1 : Valid m (grid0.coords t)
      · rw [term, if_pos ((valid_iff m _ hv).mp h1)]
        by_cases h2 : t.val % 14 = 13
        · exact (congrFun (acc_E m hO c t h0 h1 h2) (ix2 r l)).trans (step_at m hO c t _ r l)
        · exact (congrFun (acc_C m hO c t h0 h1 h2) (ix2 r l)).trans (step_at m hO c t _ r l)
      · rw [term, if_neg (fun h => h1 ((valid_iff m _ hv).mpr h)), add_zero]
        by_cases h2 : t.val % 14 = 13
        · exact congrFun (acc_F m hO c t h0 h1 h2) (ix2 r l)
        · exact congrFun (acc_D m hO c t h0 h1 h2) (ix2 r l))
    t ht
  exact e.trans (zero_add _)

/-- The output block at the last step of a tile is the accumulator times the row's gate. -/
theorem out_at (c : Dev nD) (t : Fin (cfgM m hO).N) (ht : t.val % 14 = 13) (r : Fin 512) (l : Fin 2048) :
    ((outsAt0 m hO c t.val t.isLt).1 (ix2 r l) : EReal)
      = (outsAt0 m hO c t.val t.isLt).2 (ix2 r l) * (show EReal from iblk m hO c 4 t (ix2 r 0 : S512x1.Idx)) := by
  have h0 : ¬t.val % 14 = 0 := by omega
  by_cases h1 : Valid m (grid0.coords t)
  · rw [acc_E m hO c t h0 h1 ht]
    exact (congrFun (out_E m hO c t h0 h1 ht) (ix2 r l)).trans (pay3_at _ (iblk m hO c 4 t) r l)
  · rw [acc_F m hO c t h0 h1 ht]
    exact (congrFun (out_F m hO c t h0 h1 ht) (ix2 r l)).trans (pay3_at _ (iblk m hO c 4 t) r l)

/-- A valid tile's step adds the shares of its 512 hidden columns. -/
theorem blockSum_eq (c : Dev nD) (t : Fin (cfgM m hO).N) (hv : tv m (grid0.coords t 0) = 1) (e : Fin 8) (he : e.val = te m (grid0.coords t 0))
    (r : Fin 512) (l : Fin 2048) (s : Fin 22528) (hs : s.val = (grid0.coords t 0).val * 512 + r.val) (f : Fin 14) (hf : (grid0.coords t 1).val = f.val) :
    blockSum m hO c t r l = ∑ j : Fin 512, share m c e s l ⟨f.val * 512 + j.val, by omega⟩ := by
  unfold blockSum share
  refine Finset.sum_congr rfl fun j _ => ?_
  have hj : (⟨f.val * 512 + j.val, by omega⟩ : Fin 7168).val = ((grid0.coords t 1).val * tv m (grid0.coords t 0)) * 512 + j.val := by
    rw [hv, hf, Nat.mul_one]
  refine congrArg₂ (fun (a : EReal) (b : EReal) => a * b) (congrArg₂ gated ?_ ?_) (block_down m hO c t hv.le j l e he _ hj)
  · exact Finset.sum_congr rfl fun d _ => congrArg₂ (fun (a : EReal) (b : EReal) => a * b) (block_x m hO c t r d s hs) (block_gate m hO c t hv.le d j e he _ hj)
  · exact Finset.sum_congr rfl fun d _ => congrArg₂ (fun (a : EReal) (b : EReal) => a * b) (block_x m hO c t r d s hs) (block_up m hO c t hv.le d j e he _ hj)

/-- The tile of a slot. -/
def tileOf (s : Fin 22528) : Fin 44 := ⟨s.val / 512, by omega⟩

/-- The expert of a tile. -/
def expertOf (k : Fin 44) : Fin 8 := ⟨te m k % 8, Nat.mod_lt _ (by decide)⟩

/-- What the output array holds after the run at slot `s`, column `l`: for a valid tile the output of the tile's expert
    times the slot's gate, for an invalid tile zero. -/
def result (c : Dev nD) (s : Fin 22528) (l : Fin 2048) : EReal :=
  (if tv m (tileOf s) = 1 then ∑ j : Fin 7168, share m c (expertOf m (tileOf s)) s l j else 0)
    * argSlot m c s

/-- The output block written back at the last step of a tile holds the results of its slots. -/
theorem flushed_at (hr : ∀ k, te m k < 8 ∧ tv m k ≤ 1) (c : Dev nD) (t : Fin (cfgM m hO).N) (ht : t.val % 14 = 13) (r : Fin 512) (l : Fin 2048)
    (s : Fin 22528) (hs : s.val = (grid0.coords t 0).val * 512 + r.val) :
    ((outsAt0 m hO c t.val t.isLt).1 (ix2 r l) : EReal) = result m c s l := by
  rw [out_at m hO c t ht, acc_sum m hO hr c r l t ht, block_slot m hO c t r s hs]
  refine congrArg (fun a : EReal => a * argSlot m c s) ?_
  have hk : tileOf s = grid0.coords t 0 := by
    apply Fin.ext
    show s.val / 512 = _
    omega
  have hcoord (f : Fin 14) (hlt) : grid0.coords ⟨14 * (t.val / 14) + f.val, hlt⟩ 0 = tileOf s ∧ (grid0.coords ⟨14 * (t.val / 14) + f.val, hlt⟩ 1).val = f.val := by
    have h := coords_at ⟨14 * (t.val / 14) + f.val, hlt⟩
    have h' := coords_at t
    rw [hk]
    constructor
    · apply Fin.ext
      rw [h.1, h'.1]
      show (14 * (t.val / 14) + f.val) / 14 = t.val / 14
      omega
    · rw [h.2]
      show (14 * (t.val / 14) + f.val) % 14 = f.val
      omega
  by_cases hv : tv m (tileOf s) = 1
  · rw [if_pos hv, Fin.sum_univ_tiles 14 512 rfl]
    refine Finset.sum_congr rfl fun f _ => ?_
    have hc := hcoord f (run_point_lt_of_flush t ht f)
    unfold term
    rw [hc.1, if_pos hv]
    refine blockSum_eq m hO c _ (by rw [hc.1]; exact hv) _ ?_ r l s ?_ f hc.2
    · rw [hc.1]
      exact Nat.mod_eq_of_lt (hr _).1
    · rw [hc.1, hk]; exact hs
  · rw [if_neg hv]
    refine Finset.sum_eq_zero fun f _ => ?_
    unfold term
    rw [(hcoord f (run_point_lt_of_flush t ht f)).1, if_neg hv]

/-- Where the output window's block at a point lies in the output array: the rows of the point's tile. -/
theorem emb_out (t : Fin (cfgM m hO).N) (r : Fin 512) (l : Fin 2048) (s : Fin 22528) (hs : s.val = (grid0.coords t 0).val * 512 + r.val) :
    (((cfgM m hO).win 5).blk t).view.emb (ix2 r l : S512x2048.Idx) = (ix2 s l : S22528x2048.Idx) := by
  funext a
  apply Fin.ext
  refine (Pipeline.Window.rect_emb_val ((cfgM m hO).win 5) t (ix2 r l : S512x2048.Idx) a).trans ?_
  have hi := coord0_lt (grid0.coords t)
  match a with
  | ⟨0, _⟩ =>
    show (BitVec.ofNat 32 (grid0.coords t 0).val).toNat * 512 + r.val = s.val
    rw [BitVec.toNat_ofNat, Nat.mod_eq_of_lt (by omega)]
    exact hs.symm
  | ⟨1, _⟩ => show 0 * 2048 + l.val = l.val; omega

/-- The output array after the run holds the results. -/
theorem array_eq (hr : ∀ k, te m k < 8 ∧ tv m k ≤ 1) (c : Dev nD) :
    (dats m hO 0 c).arrAt 5 (cfgM m hO).N = (fun i : S22528x2048.Idx => (result m c (i 0) (i 1) : EReal)) := by
  refine (dats m hO 0 c).arrAt_eq_of_emb 5 _ (fun t hf y => ?_) ?_
  · refine (congrFun (after0_5 m hO c t) _).trans ?_
    have ht : t.val % 14 = 13 := (flush0_5 (adm m hO) t).mp hf
    have key : ∀ y : S512x2048.Idx, ((outsAt0 m hO c t.val t.isLt).1 y : EReal)
        = (fun i : S22528x2048.Idx => (result m c (i 0) (i 1) : EReal)) ((((cfgM m hO).win 5).blk t).view.emb y) := by
      intro y
      have hi := coord0_lt (grid0.coords t)
      have hy : y = ix2 (y 0) (y 1) := eq_ix2 y
      have h0 : (y 0).val < 512 := (y 0).isLt
      have hs : (⟨(grid0.coords t 0).val * 512 + (y 0).val, by omega⟩ : Fin 22528).val = (grid0.coords t 0).val * 512 + (y 0).val := rfl
      rw [hy]
      refine (flushed_at m hO hr c t ht (y 0) (y 1) _ hs).trans ?_
      exact (congrArg (fun i : S22528x2048.Idx => (result m c (i 0) (i 1) : EReal)) (emb_out m hO t (y 0) (y 1) _ hs)).symm
    exact key y
  · intro i
    have h0 : ((show S22528x2048.Idx from i) 0).val < 22528 := ((show S22528x2048.Idx from i) 0).isLt
    have hN : (cfgM m hO).N = 616 := rfl
    refine ⟨⟨14 * (((show S22528x2048.Idx from i) 0).val / 512) + 13, by omega⟩, (flush0_5 (adm m hO) _).mpr ?_, ?_⟩
    · show (14 * (((show S22528x2048.Idx from i) 0).val / 512) + 13) % 14 = 13
      omega
    · have hc := (coords_at ⟨14 * (((show S22528x2048.Idx from i) 0).val / 512) + 13, by show _ < 616; omega⟩).1
      have he := emb_out m hO ⟨14 * (((show S22528x2048.Idx from i) 0).val / 512) + 13, by omega⟩
        ⟨((show S22528x2048.Idx from i) 0).val % 512, Nat.mod_lt _ (by decide)⟩ ((show S22528x2048.Idx from i) 1) ((show S22528x2048.Idx from i) 0)
        (by
          rw [hc]
          show _ = (14 * (((show S22528x2048.Idx from i) 0).val / 512) + 13) / 14 * 512 + ((show S22528x2048.Idx from i) 0).val % 512
          omega)
      have hi : (ix2 ((show S22528x2048.Idx from i) 0) ((show S22528x2048.Idx from i) 1) : S22528x2048.Idx) = i := (eq_ix2 (show S22528x2048.Idx from i)).symm
      exact Finset.mem_map.mpr ⟨_, Finset.mem_univ _, he.trans hi⟩

end Cert.KernelIdeal.Expert

end

end
-- ==== Proof.Match.lean ====
/- The output array of the expert feed-forward and the composed term of the reference are the same array. -/
module

public import proofs.«01_k».proof.Proof.Ref
public import proofs.«01_k».proof.Proof.ExpertValue

@[expose] public section

set_option maxRecDepth 16384

noncomputable section

namespace Cert.Expert

open Idealize.ShloMosaic Idealize.ShloMosaic.TcCoe Cert.KernelIdeal Cert.KernelIdeal.Tables Cert.KernelIdeal.Expert

variable (m : (ℓ : Loc nD τ sig) → Buf (Elt Ideal) ℓ)

/-- A 32-bit word is the word of its value. -/
theorem word_eq (b : BitVec 32) : BitVec.ofNat 32 b.toNat = b := by simp

/-- A 32-bit word of value one is positive. -/
theorem pos_of_one (b : BitVec 32) (h : b.toNat = 1) : (0#32).slt b = true := by
  rw [show b = 1#32 from BitVec.eq_of_toNat_eq h]; decide

/-- A 32-bit word of value zero is not positive. -/
theorem not_pos_of_zero (b : BitVec 32) (h : b.toNat = 0) : (0#32).slt b = false := by
  rw [show b = 0#32 from BitVec.eq_of_toNat_eq h]; decide

/-- Selecting by a flag of value at most one, then multiplying, in either order. -/
theorem select_mul (b : BitVec 32) (h : b.toNat ≤ 1) (x y : EReal) :
    (if (0#32).slt b then x else 0) * y = (if b.toNat = 1 then y else 0) * x := by
  by_cases h1 : b.toNat = 1
  · rw [pos_of_one b h1, if_pos rfl, if_pos h1, mul_comm]
  · rw [not_pos_of_zero b (by omega), if_neg (by decide), if_neg h1, zero_mul, zero_mul]

/-- The reference's formula over the argument arrays of the expert feed-forward equals the result the latter leaves. -/
theorem value_eq (hr : ∀ k, te m k < 8 ∧ tv m k ≤ 1) (c : Dev nD) (s : Fin 22528) (l : Fin 2048) :
    Cert.ReferenceIdeal.Read.val_main_v27 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (ix2 s l : S22528x2048.Idx)
      = result m c s l := by
  obtain rfl : c = (0 : Dev nD) := Subsingleton.elim _ _
  have hte : te m (tileOf s) < 8 := (hr (tileOf s)).1
  have htv : tv m (tileOf s) ≤ 1 := (hr (tileOf s)).2
  have he : (m (((0 : Dev nD) : Thread nD τ).loc main_arg0) (ix1 (tileOf s) : S44.Idx) : BitVec 32)
      = BitVec.ofNat 32 (expertOf m (tileOf s)).val := by
    have h1 : (expertOf m (tileOf s)).val = te m (tileOf s) := Nat.mod_eq_of_lt hte
    rw [h1]
    exact (word_eq _).symm
  have hsv : s.val = (tileOf s).val * 512 + (⟨s.val % 512, Nat.mod_lt _ (by decide)⟩ : Fin 512).val := by
    show s.val = s.val / 512 * 512 + s.val % 512
    omega
  refine (Cert.ReferenceIdeal.Expert.value_at _ _ _ _ _ _ _ (expertOf m (tileOf s)) (tileOf s) _ s hsv l he).trans ?_
  exact select_mul (m (((0 : Dev nD) : Thread nD τ).loc main_arg1) (ix1 (tileOf s) : S44.Idx)) htv (argSlot m 0 s)
    (∑ j : Fin 7168, share m 0 (expertOf m (tileOf s)) s l j)

end Cert.Expert

end

end
-- ==== Proof.Rows.lean ====
/- The projection to queries, keys and values: what its operands hold. -/
module

public import proofs.«01_k».proof.Proof.Gen.Kernel2Ideal.Frame
public import Idealize.ShloMosaic.Lib.Pipeline.ValueKit
public import Idealize.ShloMosaic.Lib.Pointwise
public import Idealize.ShloMosaic.Lib.Claim

@[expose] public section

set_option maxRecDepth 16384

noncomputable section

namespace Cert.Kernel2Ideal.Project

open Cert.Kernel2Ideal Cert.Kernel2Ideal.Gen
open Idealize.ShloMosaic Idealize.ShloMosaic.TcCoe Idealize.ShloMosaic.Pipeline

variable (m : (ℓ : Loc nD τ sig) → Buf (Elt Ideal) ℓ)

/-- Row `s`, feature `d` of the prompt's rows stacked on the sample's. -/
def row (c : Dev nD) (s : Fin 9216) (d : Fin 2048) : EReal :=
  if h : s.val < 8192 then m ((c : Thread nD τ).loc main_arg0) (ix3 0 ⟨s.val, h⟩ d : S1x8192x2048.Idx)
  else m ((c : Thread nD τ).loc main_arg1) (ix3 ⟨(s.val - 8192) / 8, by omega⟩ ⟨(s.val - 8192) % 8, Nat.mod_lt _ (by decide)⟩ d : S128x8x2048.Idx)

/-- The weight of feature `d` in column `n`. -/
def weight (c : Dev nD) (d : Fin 2048) (n : Fin 3072) : EReal := m ((c : Thread nD τ).loc main_arg2) (ix3 0 d n : S1x2048x3072.Idx)

/-- Two reshaped arrays stacked, read at a row and a column. -/
theorem stack_at (X : FVec Ideal S1x8192x2048 .f32) (Y : FVec Ideal S128x8x2048 .f32) (h0 : S1x8192x2048.ShapeCasts S8192x2048)
    (h1 : S128x8x2048.ShapeCasts S1024x2048) (h2 : Shape.Concatenates [S8192x2048, S1024x2048] S9216x2048 0) (s : Fin 9216) (d : Fin 2048) :
    concatenate S9216x2048 0 [⟨S8192x2048, shapeCast S8192x2048 X h0⟩, ⟨S1024x2048, shapeCast S1024x2048 Y h1⟩] h2 (ix2 s d)
      = if h : s.val < 8192 then X (ix3 0 ⟨s.val, h⟩ d)
        else Y (ix3 ⟨(s.val - 8192) / 8, by omega⟩ ⟨(s.val - 8192) % 8, Nat.mod_lt _ (by decide)⟩ d) := by
  have h := s.isLt
  pointwise

/-- The rows the call reads. -/
theorem entry_row (c : Dev nD) (s : Fin 9216) (d : Fin 2048) : (V m c main_v3 (ix2 s d : S9216x2048.Idx) : EReal) = row m c s d := by
  show StableHlo.after hostOps0 (fun b => m (c, b)) (Proc.devRef .tc main_v3) (ix2 s d : S9216x2048.Idx) = row m c s d
  entry_read
  unfold row
  exact stack_at (m ((c : Thread nD τ).loc main_arg0)) (m ((c : Thread nD τ).loc main_arg1)) _ _
    concatenates_S8192x2048_S1024x2048_S9216x2048_d0 s d

/-- The weights the call reads. -/
theorem entry_weight (c : Dev nD) (d : Fin 2048) (n : Fin 3072) : (V m c main_v5 (ix2 d n : S2048x3072.Idx) : EReal) = weight m c d n := by
  show StableHlo.after hostOps0 (fun b => m (c, b)) (Proc.devRef .tc main_v5) (ix2 d n : S2048x3072.Idx) = weight m c d n
  unfold weight
  entry_read
  pointwise

/-- The projection: row `s` times column `n` of the weights. -/
def proj (c : Dev nD) (s : Fin 9216) (n : Fin 3072) : EReal := ∑ d : Fin 2048, row m c s d * weight m c d n

/-- The query columns' factor. -/
def scale (n : Fin 3072) : EReal := if n.val < 2048 then Ideal.ofBits .f32 0x3DB504F3#32 else 1

/-- The windows' index maps. -/
theorem idx : ∀ t : Fin cfg0.N, win0_0.index t = ![(grid0.coords t 0).val, 0] ∧ win0_1.index t = ![0, (grid0.coords t 1).val]
    ∧ win0_2.index t = ![(grid0.coords t 0).val, (grid0.coords t 1).val] ∧ win0_3.index t = ![(grid0.coords t 0).val, (grid0.coords t 1).val] :=
  (by decide +kernel : ∀ t : Fin grid0.N, _)

/-- What the call stores in its first output block, at an element. -/
theorem pay1_at (x : FVec Ideal S1024x2048 .bf16) (w : FVec Ideal S2048x512 .bf16) (r : Fin 1024) (l : Fin 512) :
    k0_pay1 (F := Ideal) x w (ix2 r l) = (∑ d : Fin 2048, (x (ix2 r d) : EReal) * w (ix2 d l) : EReal) := by
  pointwise [k0_pay1]

/-- What the call stores in its second output block, at an element. -/
theorem pay2_at (i : grid0.Coords) (x : FVec Ideal S1024x2048 .bf16) (w : FVec Ideal S2048x512 .bf16) (r : Fin 1024) (l : Fin 512) :
    k0_pay2 (F := Ideal) i x w (ix2 r l) = (∑ d : Fin 2048, (x (ix2 r d) : EReal) * w (ix2 d l) : EReal)
      * (if (i 1).val < 4 then Ideal.ofBits .f32 0x3DB504F3#32 else 1) := by
  have hi : (i 1).val < 6 := (i 1).isLt
  have hsel : ∀ k : Fin 6, Scalar.cmpi .slt (BitVec.ofNat 32 k.val) 4#32 = BitVec.ofBool (decide (k.val < 4)) := by decide
  pointwise [k0_pay2, k0_pay1]
  refine congrArg _ ?_
  refine (congrArg (fun b => Scalar.select b _ _) (hsel ⟨(i 1).val, hi⟩)).trans ?_
  by_cases h : (i 1).val < 4
  · rw [if_pos h]
    show Scalar.select (BitVec.ofBool (decide ((i 1).val < 4))) _ _ = _
    rw [decide_eq_true h]; rfl
  · rw [if_neg h]
    show Scalar.select (BitVec.ofBool (decide ((i 1).val < 4))) _ _ = _
    rw [decide_eq_false h]; rfl

/-- The rows' block at a point. -/
theorem block_row (c : Dev nD) (t : Fin cfg0.N) (r : Fin 1024) (d : Fin 2048) (s : Fin 9216) (hs : s.val = (grid0.coords t 0).val * 1024 + r.val) :
    (iblk m c 0 t (ix2 r d : S1024x2048.Idx) : EReal) = row m c s d := by
  show V m c main_v3 (((cfg0.win 0).blk t).view.emb (ix2 r d : S1024x2048.Idx)) = _
  refine (congrArg (V m c main_v3) (?_ : _ = (ix2 s d : S9216x2048.Idx))).trans (entry_row m c s d)
  funext a
  apply Fin.ext
  refine (Pipeline.Window.rect_emb_val win0_0 t (ix2 r d : S1024x2048.Idx) a).trans ?_
  rw [(idx t).1]
  match a with
  | ⟨0, _⟩ => exact hs.symm
  | ⟨1, _⟩ => show 0 * 2048 + d.val = d.val; omega

/-- The weights' block at a point. -/
theorem block_weight (c : Dev nD) (t : Fin cfg0.N) (d : Fin 2048) (l : Fin 512) (n : Fin 3072) (hn : n.val = (grid0.coords t 1).val * 512 + l.val) :
    (iblk m c 1 t (ix2 d l : S2048x512.Idx) : EReal) = weight m c d n := by
  show V m c main_v5 (((cfg0.win 1).blk t).view.emb (ix2 d l : S2048x512.Idx)) = _
  refine (congrArg (V m c main_v5) (?_ : _ = (ix2 d n : S2048x3072.Idx))).trans (entry_weight m c d n)
  funext a
  apply Fin.ext
  refine (Pipeline.Window.rect_emb_val win0_1 t (ix2 d l : S2048x512.Idx) a).trans ?_
  rw [(idx t).2.1]
  match a with
  | ⟨0, _⟩ => show 0 * 2048 + d.val = d.val; omega
  | ⟨1, _⟩ => exact hn.symm

/-- The product of the two blocks at a point is the projection at the element's place in the array. -/
theorem blocks_at (c : Dev nD) (t : Fin cfg0.N) (r : Fin 1024) (l : Fin 512) (s : Fin 9216) (hs : s.val = (grid0.coords t 0).val * 1024 + r.val)
    (n : Fin 3072) (hn : n.val = (grid0.coords t 1).val * 512 + l.val) :
    (∑ d : Fin 2048, (show EReal from iblk m c 0 t (ix2 r d : S1024x2048.Idx)) * (show EReal from iblk m c 1 t (ix2 d l : S2048x512.Idx)) : EReal) = proj m c s n :=
  Finset.sum_congr rfl fun d _ => congrArg₂ (fun (a b : EReal) => a * b) (block_row m c t r d s hs) (block_weight m c t d l n hn)

/-- The first output's array after the run. -/
theorem array2 (c : Dev nD) : (dats m 0 c).arrAt 2 (cfgs 0).N = (fun i : S9216x3072.Idx => (proj m c (i 0) (i 1) : EReal)) := by
  refine (dats m 0 c).arrAt_eq_of_covers 2 _ (by decide +kernel) fun t _ y => ?_
  blk_simp
  rw [after0_2]; frame_out
  have key : ∀ y : S1024x512.Idx, (k0_pay1 (F := Ideal) (iblk m c 0 t) (iblk m c 1 t) y : EReal)
      = proj m c (((View.whole main_v6_0).slice (win0_2.rect t)).emb y 0) (((View.whole main_v6_0).slice (win0_2.rect t)).emb y 1) := by
    intro y
    have e0 := Pipeline.Window.rect_emb_val win0_2 t y 0
    have e1 := Pipeline.Window.rect_emb_val win0_2 t y 1
    rw [(idx t).2.2.1] at e0 e1
    refine (congrArg _ (eq_ix2 y)).trans ?_
    refine (pay1_at (iblk m c 0 t) (iblk m c 1 t) (y 0) (y 1)).trans ?_
    exact blocks_at m c t (y 0) (y 1) _ e0 _ e1
  exact key y

/-- The second output's array after the run. -/
theorem array3 (c : Dev nD) : (dats m 0 c).arrAt 3 (cfgs 0).N = (fun i : S9216x3072.Idx => (proj m c (i 0) (i 1) * scale (i 1) : EReal)) := by
  refine (dats m 0 c).arrAt_eq_of_covers 3 _ (by decide +kernel) fun t _ y => ?_
  blk_simp
  rw [after0_3]; frame_out
  have key : ∀ y : S1024x512.Idx, (k0_pay2 (F := Ideal) (grid0.coords t) (iblk m c 0 t) (iblk m c 1 t) y : EReal)
      = proj m c (((View.whole main_v6_1).slice (win0_3.rect t)).emb y 0) (((View.whole main_v6_1).slice (win0_3.rect t)).emb y 1)
        * scale (((View.whole main_v6_1).slice (win0_3.rect t)).emb y 1) := by
    intro y
    have e0 := Pipeline.Window.rect_emb_val win0_3 t y 0
    have e1 := Pipeline.Window.rect_emb_val win0_3 t y 1
    rw [(idx t).2.2.2] at e0 e1
    have e1' : (((View.whole main_v6_1).slice (win0_3.rect t)).emb y 1).val = (grid0.coords t 1).val * 512 + (y 1).val := e1
    have hy : (y 1).val < 512 := (y 1).isLt
    refine (congrArg _ (eq_ix2 y)).trans ?_
    refine (pay2_at (grid0.coords t) (iblk m c 0 t) (iblk m c 1 t) (y 0) (y 1)).trans ?_
    refine congrArg₂ (fun (a b : EReal) => a * b) (blocks_at m c t (y 0) (y 1) _ e0 _ e1) ?_
    unfold scale
    by_cases h : (grid0.coords t 1).val < 4
    · rw [if_pos h, if_pos (by omega)]
    · rw [if_neg h, if_neg (by omega)]
  exact key y

end Cert.Kernel2Ideal.Project

end

end
-- ==== Proof.Slices.lean ====
/- The projection's results: the slices of its output that the host cuts out after the call. -/
module

public import proofs.«01_k».proof.Proof.Rows

@[expose] public section

set_option maxRecDepth 16384

noncomputable section

namespace Cert.Kernel2Ideal.Project

open Cert.Kernel2Ideal Cert.Kernel2Ideal.Gen
open Idealize.ShloMosaic Idealize.ShloMosaic.TcCoe Idealize.ShloMosaic.Pipeline

variable (m : (ℓ : Loc nD τ sig) → Buf (Elt Ideal) ℓ)

/-- The buffers after the call, before the host cuts its results out. -/
def mid (c : Dev nD) : Valuation τ sig (Elt Ideal) :=
  withArrays (cfgs 0).spec c (V0 m c) fun w => (dats m 0 c).arrAt w (cfgs 0).N

/-- After the call its first output holds the projection. -/
theorem mid_out (c : Dev nD) : mid m c (Proc.devRef .tc main_v6_0) = (fun i : S9216x3072.Idx => (proj m c (i 0) (i 1) : EReal)) := by
  refine Eq.trans ?_ (array2 m c)
  exact withArrays_arr (cfgs 0).spec (by decide) c (V0 m c) (fun w => (dats m 0 c).arrAt w (cfgs 0).N) 2

/-- The prompt's keys. -/
theorem keys_prompt (c : Dev nD) (t : Fin 8192) (h : Fin 4) (e : Fin 128) :
    (afterTail₀ cfgs (dats m) 0 (V0 m) [hostOps1] c main_v10 (ix5 0 0 t h e : S1x1x8192x4x128.Idx) : EReal)
      = proj m c ⟨t.val, by omega⟩ ⟨2048 + (h.val * 128 + e.val), by omega⟩ := by
  show StableHlo.after hostOps1 (mid m c) (Proc.devRef .tc main_v10) (ix5 0 0 t h e : S1x1x8192x4x128.Idx) = _
  entry_read
  rw [mid_out]
  pointwise

/-- The prompt's values. -/
theorem values_prompt (c : Dev nD) (t : Fin 8192) (h : Fin 4) (e : Fin 128) :
    (afterTail₀ cfgs (dats m) 0 (V0 m) [hostOps1] c main_v12 (ix5 0 0 t h e : S1x1x8192x4x128.Idx) : EReal)
      = proj m c ⟨t.val, by omega⟩ ⟨2560 + (h.val * 128 + e.val), by omega⟩ := by
  show StableHlo.after hostOps1 (mid m c) (Proc.devRef .tc main_v12) (ix5 0 0 t h e : S1x1x8192x4x128.Idx) = _
  entry_read
  rw [mid_out]
  pointwise

/-- The sample's keys. -/
theorem keys_sample (c : Dev nD) (b : Fin 128) (t : Fin 8) (h : Fin 4) (e : Fin 128) :
    (afterTail₀ cfgs (dats m) 0 (V0 m) [hostOps1] c main_v14 (ix5 0 b t h e : S1x128x8x4x128.Idx) : EReal)
      = proj m c ⟨8192 + (b.val * 8 + t.val), by omega⟩ ⟨2048 + (h.val * 128 + e.val), by omega⟩ := by
  show StableHlo.after hostOps1 (mid m c) (Proc.devRef .tc main_v14) (ix5 0 b t h e : S1x128x8x4x128.Idx) = _
  entry_read
  rw [mid_out]
  pointwise

/-- The sample's values. -/
theorem values_sample (c : Dev nD) (b : Fin 128) (t : Fin 8) (h : Fin 4) (e : Fin 128) :
    (afterTail₀ cfgs (dats m) 0 (V0 m) [hostOps1] c main_v16 (ix5 0 b t h e : S1x128x8x4x128.Idx) : EReal)
      = proj m c ⟨8192 + (b.val * 8 + t.val), by omega⟩ ⟨2560 + (h.val * 128 + e.val), by omega⟩ := by
  show StableHlo.after hostOps1 (mid m c) (Proc.devRef .tc main_v16) (ix5 0 b t h e : S1x128x8x4x128.Idx) = _
  entry_read
  rw [mid_out]
  pointwise

end Cert.Kernel2Ideal.Project

end

end
-- ==== Proof.ProjectRef.lean ====
/- The values of the projection's reference: rows times columns of the weights. -/
module

public import proofs.«01_k».proof.Proof.Gen.Reference2Ideal.Run
public import proofs.«01_k».proof.Proof.Gen.Reference2Ideal.Read
public import Idealize.ShloMosaic.Lib.Pointwise

@[expose] public section

set_option maxRecDepth 16384

noncomputable section

namespace Cert.Reference2Ideal.Project

open Cert.Reference2Ideal Cert.Reference2Ideal.Read
open Idealize.ShloMosaic Idealize.ShloMosaic.TcCoe

variable (x : FVec Ideal S1x8192x2048 .f32) (y : FVec Ideal S128x8x2048 .f32) (w : FVec Ideal S1x2048x3072 .f32)

/-- A prompt row times a column of the weights. -/
def prompt (t : Fin 8192) (n : Fin 3072) : EReal := ∑ d : Fin 2048, x (ix3 0 t d) * w (ix3 0 d n)

/-- A sample row times a column of the weights. -/
def sample (b : Fin 128) (t : Fin 8) (n : Fin 3072) : EReal := ∑ d : Fin 2048, y (ix3 b t d) * w (ix3 0 d n)

/-- The prompt's keys. -/
theorem keys_prompt (t : Fin 8192) (h : Fin 4) (e : Fin 128) :
    val_main_v3 (F := Ideal) x w (ix5 0 0 t h e : S1x1x8192x4x128.Idx) = prompt x w t ⟨2048 + (h.val * 128 + e.val), by omega⟩ := by
  pointwise [val_main_v3, val_main_v2, val_main_v1, val_main_v0, prompt]

/-- The prompt's values. -/
theorem values_prompt (t : Fin 8192) (h : Fin 4) (e : Fin 128) :
    val_main_v5 (F := Ideal) x w (ix5 0 0 t h e : S1x1x8192x4x128.Idx) = prompt x w t ⟨2560 + (h.val * 128 + e.val), by omega⟩ := by
  pointwise [val_main_v5, val_main_v4, val_main_v1, val_main_v0, prompt]

/-- The sample's keys. -/
theorem keys_sample (b : Fin 128) (t : Fin 8) (h : Fin 4) (e : Fin 128) :
    val_main_v15 (F := Ideal) y w (ix5 0 b t h e : S1x128x8x4x128.Idx) = sample y w b t ⟨2048 + (h.val * 128 + e.val), by omega⟩ := by
  pointwise [val_main_v15, val_main_v14, val_main_v13, val_main_v12, sample]

/-- The sample's values. -/
theorem values_sample (b : Fin 128) (t : Fin 8) (h : Fin 4) (e : Fin 128) :
    val_main_v17 (F := Ideal) y w (ix5 0 b t h e : S1x128x8x4x128.Idx) = sample y w b t ⟨2560 + (h.val * 128 + e.val), by omega⟩ := by
  pointwise [val_main_v17, val_main_v16, val_main_v13, val_main_v12, sample]

/-- A factor on the first columns only, taken out of a case distinction on the column. -/
theorem split_scale (n : Fin 3072) (f : Fin 3072 → EReal) (hb : ¬ n.val < 2048 → 2048 + (n.val - 2048) < 3072) (a : EReal) :
    (if h : n.val < 2048 then f n * a else f ⟨2048 + (n.val - 2048), hb h⟩) = f n * (if n.val < 2048 then a else 1) := by
  by_cases h : n.val < 2048
  · rw [dif_pos h, if_pos h]
  · rw [dif_neg h, if_neg h, mul_one]
    exact congrArg f (Fin.ext (by show 2048 + (n.val - 2048) = n.val; omega))

/-- The scaled rows of the prompt. -/
theorem scaled_prompt (s : Fin 8192) (n : Fin 3072) :
    val_main_v11 (F := Ideal) x w (ix2 s n : S8192x3072.Idx)
      = prompt x w s n * (if n.val < 2048 then Ideal.ofBits .f32 0x3DB504F3#32 else 1) := by
  have hs := s.isLt
  pointwise [val_main_v11, val_main_v10, val_main_v9, val_main_v8, val_main_v7, val_main_v6, val_main_cst, val_main_v1, val_main_v0, prompt]
  exact split_scale n (fun k => ∑ d : Fin 2048, x (ix3 0 s d) * w (ix3 0 d k)) (fun _ => by omega) _

/-- The scaled rows of the sample. -/
theorem scaled_sample (r : Fin 1024) (n : Fin 3072) :
    val_main_v23 (F := Ideal) y w (ix2 r n : S1024x3072.Idx)
      = sample y w ⟨r.val / 8, by omega⟩ ⟨r.val % 8, Nat.mod_lt _ (by decide)⟩ n * (if n.val < 2048 then Ideal.ofBits .f32 0x3DB504F3#32 else 1) := by
  have hr := r.isLt
  pointwise [val_main_v23, val_main_v22, val_main_v21, val_main_v20, val_main_v19, val_main_v18, val_main_cst_0, val_main_v13, val_main_v12, sample]
  exact split_scale n (fun k => ∑ d : Fin 2048, y (ix3 ⟨r.val / 8, by omega⟩ ⟨r.val % 8, Nat.mod_lt _ (by decide)⟩ d) * w (ix3 0 d k)) (fun _ => by omega) _

/-- The scaled rows, prompt above sample. -/
theorem scaled_at (s : Fin 9216) (n : Fin 3072) :
    val_main_v25 (F := Ideal) x y w (ix2 s n : S9216x3072.Idx)
      = (if h : s.val < 8192 then prompt x w ⟨s.val, h⟩ n
          else sample y w ⟨(s.val - 8192) / 8, by omega⟩ ⟨(s.val - 8192) % 8, Nat.mod_lt _ (by decide)⟩ n)
        * (if n.val < 2048 then Ideal.ofBits .f32 0x3DB504F3#32 else 1) := by
  have hs := s.isLt
  pointwise [val_main_v25, val_main_v24]
  by_cases h : s.val < 8192
  · rw [dif_pos h, dif_pos h]
    exact scaled_prompt x w ⟨s.val, h⟩ n
  · rw [dif_neg h, dif_neg h]
    exact scaled_sample y w ⟨s.val - 8192, by omega⟩ n

end Cert.Reference2Ideal.Project

end

end
-- ==== Proof.Project.lean ====
/- The projection and its reference leave the same results. -/
module

public import proofs.«01_k».proof.Defs
public import proofs.«01_k».proof.Proof.Slices
public import proofs.«01_k».proof.Proof.ProjectRef
public import proofs.«01_k».proof.Proof.Gen.Kernel2Ideal
public import proofs.«01_k».proof.Proof.Gen.Reference2Ideal

@[expose] public section

set_option maxRecDepth 16384

noncomputable section

namespace Cert.Project

open Cert.Kernel2Ideal Cert.Kernel2Ideal.Gen Cert.Kernel2Ideal.Project
open Idealize.ShloMosaic Idealize.ShloMosaic.TcCoe Idealize.ShloMosaic.Pipeline Idealize.SL.Sem

variable (m : (ℓ : Loc nD τ sig) → Buf (Elt Ideal) ℓ)

/-- A stacked row of the prompt. -/
theorem prompt_eq (c : Dev nD) (t : Fin 8192) (n : Fin 3072) :
    Cert.Reference2Ideal.Project.prompt (m ((c : Thread nD τ).loc main_arg0)) (m ((c : Thread nD τ).loc main_arg2)) t n
      = proj m c ⟨t.val, by omega⟩ n := by
  refine Finset.sum_congr rfl fun d _ => congrArg (fun a : EReal => a * weight m c d n) ?_
  have ht : t.val < 8192 := t.isLt
  exact Eq.symm (dif_pos ht)

/-- A stacked row of the sample. -/
theorem sample_eq (c : Dev nD) (b : Fin 128) (t : Fin 8) (n : Fin 3072) :
    Cert.Reference2Ideal.Project.sample (m ((c : Thread nD τ).loc main_arg1)) (m ((c : Thread nD τ).loc main_arg2)) b t n
      = proj m c ⟨8192 + (b.val * 8 + t.val), by omega⟩ n := by
  refine Finset.sum_congr rfl fun d _ => congrArg (fun a : EReal => a * weight m c d n) ?_
  have hn : ¬ (8192 + (b.val * 8 + t.val) < 8192) := by omega
  refine Eq.trans ?_ (dif_neg hn).symm
  have hb : (⟨(8192 + (b.val * 8 + t.val) - 8192) / 8, by omega⟩ : Fin 128) = b := Fin.ext (by show (8192 + (b.val * 8 + t.val) - 8192) / 8 = b.val; omega)
  have ht : (⟨(8192 + (b.val * 8 + t.val) - 8192) % 8, by omega⟩ : Fin 8) = t := Fin.ext (by show (8192 + (b.val * 8 + t.val) - 8192) % 8 = t.val; omega)
  exact congrArg₂ (fun i j => m ((c : Thread nD τ).loc main_arg1) (ix3 i j d : S128x8x2048.Idx)) hb.symm ht.symm

/-- The reference's scaled rows are the second output. -/
theorem scaled_eq (c : Dev nD) (s : Fin 9216) (n : Fin 3072) :
    Cert.Reference2Ideal.Read.val_main_v25 (F := Ideal) (m ((c : Thread nD τ).loc main_arg0)) (m ((c : Thread nD τ).loc main_arg1))
        (m ((c : Thread nD τ).loc main_arg2)) (ix2 s n : S9216x3072.Idx) = proj m c s n * scale n := by
  refine (Cert.Reference2Ideal.Project.scaled_at _ _ _ s n).trans ?_
  refine congrArg (fun a : EReal => a * scale n) ?_
  by_cases h : s.val < 8192
  · rw [dif_pos h]
    exact prompt_eq m c ⟨s.val, h⟩ n
  · rw [dif_neg h, sample_eq]
    exact congrArg (fun k => proj m c k n) (Fin.ext (by show 8192 + ((s.val - 8192) / 8 * 8 + (s.val - 8192) % 8) = s.val; omega))

/-- The projection and its reference, from equal arguments, end with equal results. -/
theorem value_project : Cert.algebraic_Kernel2Ideal_Reference2Ideal := by
  intro m g m' g' hpre hagree
  refine ⟨fun c => afterTail₀ cfgs (dats m) 0 (V0 m) [hostOps1] c main_v10, fun c => afterTail₀ cfgs (dats m) 0 (V0 m) [hostOps1] c main_v12,
    fun c => afterTail₀ cfgs (dats m) 0 (V0 m) [hostOps1] c main_v14, fun c => afterTail₀ cfgs (dats m) 0 (V0 m) [hostOps1] c main_v16,
    fun c => (fun i : S9216x3072.Idx => (proj m c (i 0) (i 1) * scale (i 1) : EReal)), ?_, ?_⟩
  · exact θ_run_mono (θ_run_and (run_main m g) (unchanged m g)) fun r h c =>
      ⟨(h.1 c).2 main_v10 (by decide), (h.1 c).2 main_v12 (by decide), (h.1 c).2 main_v14 (by decide), (h.1 c).2 main_v16 (by decide),
        ((h.1 c).1 3).trans (array3 m c), h.2 c⟩
  · refine θ_run_mono (Cert.Reference2Ideal.Value.run m' g') fun r h c => ?_
    obtain ⟨h0, h1, h2⟩ := hagree c
    obtain ⟨e0, e1, e2, e3, e4, ha⟩ := h c
    refine ⟨(e0.trans (Cert.Reference2Ideal.Read.val_main_v3_eq _ _)).trans ?_, (e1.trans (Cert.Reference2Ideal.Read.val_main_v5_eq _ _)).trans ?_,
      (e2.trans (Cert.Reference2Ideal.Read.val_main_v15_eq _ _)).trans ?_, (e3.trans (Cert.Reference2Ideal.Read.val_main_v17_eq _ _)).trans ?_,
      (e4.trans (Cert.Reference2Ideal.Read.val_main_v25_eq _ _ _)).trans ?_, ha⟩
    · rw [h0, h2]
      funext i
      obtain ⟨a, b, t, h, e, rfl⟩ : ∃ (a b : Fin 1) (t : Fin 8192) (h : Fin 4) (e : Fin 128), i = (ix5 a b t h e : S1x1x8192x4x128.Idx) :=
        ⟨_, _, _, _, _, eq_ix5 i⟩
      obtain rfl : a = 0 := Subsingleton.elim _ _
      obtain rfl : b = 0 := Subsingleton.elim _ _
      exact ((Cert.Reference2Ideal.Project.keys_prompt _ _ t h e).trans (prompt_eq m c t _)).trans (keys_prompt m c t h e).symm
    · rw [h0, h2]
      funext i
      obtain ⟨a, b, t, h, e, rfl⟩ : ∃ (a b : Fin 1) (t : Fin 8192) (h : Fin 4) (e : Fin 128), i = (ix5 a b t h e : S1x1x8192x4x128.Idx) :=
        ⟨_, _, _, _, _, eq_ix5 i⟩
      obtain rfl : a = 0 := Subsingleton.elim _ _
      obtain rfl : b = 0 := Subsingleton.elim _ _
      exact ((Cert.Reference2Ideal.Project.values_prompt _ _ t h e).trans (prompt_eq m c t _)).trans (values_prompt m c t h e).symm
    · rw [h1, h2]
      funext i
      obtain ⟨a, b, t, h, e, rfl⟩ : ∃ (a : Fin 1) (b : Fin 128) (t : Fin 8) (h : Fin 4) (e : Fin 128), i = (ix5 a b t h e : S1x128x8x4x128.Idx) :=
        ⟨_, _, _, _, _, eq_ix5 i⟩
      obtain rfl : a = 0 := Subsingleton.elim _ _
      exact ((Cert.Reference2Ideal.Project.keys_sample _ _ b t h e).trans (sample_eq m c b t _)).trans (keys_sample m c b t h e).symm
    · rw [h1, h2]
      funext i
      obtain ⟨a, b, t, h, e, rfl⟩ : ∃ (a : Fin 1) (b : Fin 128) (t : Fin 8) (h : Fin 4) (e : Fin 128), i = (ix5 a b t h e : S1x128x8x4x128.Idx) :=
        ⟨_, _, _, _, _, eq_ix5 i⟩
      obtain rfl : a = 0 := Subsingleton.elim _ _
      exact ((Cert.Reference2Ideal.Project.values_sample _ _ b t h e).trans (sample_eq m c b t _)).trans (values_sample m c b t h e).symm
    · rw [h0, h1, h2]
      funext i
      obtain ⟨s, n, rfl⟩ : ∃ (s : Fin 9216) (n : Fin 3072), i = (ix2 s n : S9216x3072.Idx) := ⟨_, _, eq_ix2 i⟩
      exact scaled_eq m c s n

end Cert.Project

end

end
-- ==== Proof.Norm.lean ====
/- The layer norm of one row, and the combined row that goes into it. -/
module

public import Idealize.ShloMosaic.Lib.Pointwise

@[expose] public section

noncomputable section

namespace Cert.Norm

open Idealize.ShloMosaic Idealize.ShloMosaic.TcCoe

/-- The row's length. -/
def len : EReal := Ideal.ofBits .f32 0x45000000#32

/-- The mean of a row. -/
def mean (z : Fin 2048 → EReal) : EReal := Ideal.div (∑ d : Fin 2048, z d) len

/-- The mean of the squared distances of a row from its mean. -/
def var (z : Fin 2048 → EReal) : EReal := Ideal.div (∑ d : Fin 2048, (z d - mean z) * (z d - mean z)) len

/-- The layer norm of a row with gain `g` and offset `b`, at feature `d`. -/
def layer (z : Fin 2048 → EReal) (g b : Fin 2048 → EReal) (d : Fin 2048) : EReal :=
  (z d - mean z) * Ideal.rsqrt (var z + Ideal.ofBits .f32 0x3727C5AC#32) * g d + b d

/-- A row times the residual's factor, plus the two experts' rows. -/
def joined (y p q : Fin 2048 → EReal) (d : Fin 2048) : EReal := Ideal.ofBits .f32 0x3FB504F3#32 * y d + p d + q d

end Cert.Norm

end

end
-- ==== Proof.Combine.lean ====
/- The combination of the experts' rows with the residual row and its layer norm: what the call leaves in its output. -/
module

public import proofs.«01_k».proof.Proof.Norm
public import proofs.«01_k».proof.Proof.Gen.Kernel3Ideal.Frame
public import proofs.«01_k».proof.Proof.Gen.Reference3Ideal.Read
public import Idealize.ShloMosaic.Lib.Pipeline.ValueKit
public import Idealize.ShloMosaic.Lib.Pointwise
public import Idealize.ShloMosaic.Lib.Claim

@[expose] public section

set_option maxRecDepth 16384

noncomputable section

namespace Cert.Kernel3Ideal.Combine

open Cert.Kernel3Ideal Cert.Kernel3Ideal.Gen Cert.Norm
open Idealize.ShloMosaic Idealize.ShloMosaic.TcCoe Idealize.ShloMosaic.Pipeline

variable (m : (ℓ : Loc nD τ sig) → Buf (Elt Ideal) ℓ)

/-- What the call stores, at an element: the layer norm of the joined row. -/
theorem pay1_at (y p q : FVec Ideal S512x2048 .f32) (g b : FVec Ideal S1x2048 .f32) (r : Fin 512) (d : Fin 2048) :
    (k0_pay1 (F := Ideal) y p q g b (ix2 r d) : EReal)
      = layer (joined (fun k => y (ix2 r k)) (fun k => p (ix2 r k)) (fun k => q (ix2 r k))) (fun k => g (ix2 0 k)) (fun k => b (ix2 0 k)) d := by
  pointwise [k0_pay1]
  rfl

/-- The experts' rows taken per token, as the reference takes them. -/
def taken (c : Dev nD) : FVec Ideal S18432x2048 .f32 :=
  Cert.Reference3Ideal.Read.val_main_v0 (F := Ideal) (m ((c : Thread nD τ).loc main_arg1)) (m ((c : Thread nD τ).loc main_arg2))

/-- The buffers after the rows are taken. -/
def early (c : Dev nD) : Valuation τ sig (Elt Ideal) := StableHlo.after hostOps0 fun b => m (c, b)

/-- The buffers the call starts from, in two steps. -/
theorem entry_split (c : Dev nD) : V0 m c = StableHlo.after hostOps0_1 (early m c) := by
  unfold V0 early
  rw [List.flatten_cons, List.flatten_cons, List.flatten_nil, List.append_nil, StableHlo.after_append]

/-- What the host's first operations leave in the array of taken rows. -/
theorem early_taken (c : Dev nD) : early m c (Proc.devRef .tc main_v0) = taken m c := by
  unfold early
  simp only [hostOps0, StableHlo.TRef.binary, StableHlo.TRef.nullary, StableHlo.TRef.ternary, StableHlo.TRef.unary, StableHlo.TRef.toBuf, StableHlo.TRef.ofBuf, cast_eq]
  after_results_simp <;> rfl

/-- They leave the gains alone. -/
theorem early_arg3 (c : Dev nD) : early m c (Proc.devRef .tc main_arg3) = m ((c : Thread nD τ).loc main_arg3) := by
  unfold early
  simp only [hostOps0, StableHlo.TRef.binary, StableHlo.TRef.nullary, StableHlo.TRef.ternary, StableHlo.TRef.unary, StableHlo.TRef.toBuf, StableHlo.TRef.ofBuf, cast_eq]
  after_results_simp <;> rfl

/-- They leave the offsets alone. -/
theorem early_arg4 (c : Dev nD) : early m c (Proc.devRef .tc main_arg4) = m ((c : Thread nD τ).loc main_arg4) := by
  unfold early
  simp only [hostOps0, StableHlo.TRef.binary, StableHlo.TRef.nullary, StableHlo.TRef.ternary, StableHlo.TRef.unary, StableHlo.TRef.toBuf, StableHlo.TRef.ofBuf, cast_eq]
  after_results_simp <;> rfl

/-- The experts' rows the call reads: a token's first row, then its second. -/
theorem entry_pairs (c : Dev nD) (s : Fin 9216) (n : Fin 4096) :
    (V m c main_v1 (ix2 s n : S9216x4096.Idx) : EReal) = taken m c (ix2 ⟨s.val * 2 + n.val / 2048, by omega⟩ ⟨n.val % 2048, by omega⟩) := by
  refine (congrFun (congrFun (entry_split m c) (Proc.devRef .tc main_v1)) (ix2 s n : S9216x4096.Idx)).trans ?_
  entry_read
  rw [early_taken]
  pointwise

/-- The gains the call reads. -/
theorem entry_gain (c : Dev nD) (d : Fin 2048) :
    (V m c main_v6 (ix2 0 d : S1x2048.Idx) : EReal) = m ((c : Thread nD τ).loc main_arg3) (ix3 1 1 d : S2x2x2048.Idx) := by
  refine (congrFun (congrFun (entry_split m c) (Proc.devRef .tc main_v6)) (ix2 0 d : S1x2048.Idx)).trans ?_
  entry_read
  rw [early_arg3]
  pointwise

/-- The offsets the call reads. -/
theorem entry_offset (c : Dev nD) (d : Fin 2048) :
    (V m c main_v7 (ix2 0 d : S1x2048.Idx) : EReal) = m ((c : Thread nD τ).loc main_arg4) (ix3 1 1 d : S2x2x2048.Idx) := by
  refine (congrFun (congrFun (entry_split m c) (Proc.devRef .tc main_v7)) (ix2 0 d : S1x2048.Idx)).trans ?_
  entry_read
  rw [early_arg4]
  pointwise

/-- The windows' index maps. -/
theorem idx : ∀ t : Fin cfg0.N, win0_0.index t = ![(grid0.coords t 0).val, 0] ∧ win0_1.index t = ![(grid0.coords t 0).val, 0]
    ∧ win0_2.index t = ![(grid0.coords t 0).val, 1] ∧ win0_3.index t = ![0, 0] ∧ win0_4.index t = ![0, 0]
    ∧ win0_5.index t = ![(grid0.coords t 0).val, 0] :=
  (by decide +kernel : ∀ t : Fin grid0.N, _)

/-- The residual row of a token. -/
def resid (c : Dev nD) (s : Fin 9216) (d : Fin 2048) : EReal := m ((c : Thread nD τ).loc main_arg0) (ix2 s d : S9216x2048.Idx)

/-- A token's row from its expert of rank `k`. -/
def expert (c : Dev nD) (s : Fin 9216) (k : Fin 2) (d : Fin 2048) : EReal := taken m c (ix2 ⟨s.val * 2 + k.val, by omega⟩ d)

/-- The gains. -/
def gain (c : Dev nD) (d : Fin 2048) : EReal := m ((c : Thread nD τ).loc main_arg3) (ix3 1 1 d : S2x2x2048.Idx)

/-- The offsets. -/
def offset (c : Dev nD) (d : Fin 2048) : EReal := m ((c : Thread nD τ).loc main_arg4) (ix3 1 1 d : S2x2x2048.Idx)

/-- The result row of a token. -/
def out (c : Dev nD) (s : Fin 9216) (d : Fin 2048) : EReal :=
  layer (joined (resid m c s) (expert m c s 0) (expert m c s 1)) (gain m c) (offset m c) d

/-- The residual rows' block at a point. -/
theorem block_resid (c : Dev nD) (t : Fin cfg0.N) (r : Fin 512) (d : Fin 2048) (s : Fin 9216) (hs : s.val = (grid0.coords t 0).val * 512 + r.val) :
    (iblk m c 0 t (ix2 r d : S512x2048.Idx) : EReal) = resid m c s d := by
  show V m c main_arg0 (((cfg0.win 0).blk t).view.emb (ix2 r d : S512x2048.Idx)) = _
  refine (congrFun (V_main_arg0 m c) _).trans (congrArg (m ((c : Thread nD τ).loc main_arg0)) (?_ : _ = (ix2 s d : S9216x2048.Idx)))
  funext a
  apply Fin.ext
  refine (Pipeline.Window.rect_emb_val win0_0 t (ix2 r d : S512x2048.Idx) a).trans ?_
  rw [(idx t).1]
  match a with
  | ⟨0, _⟩ => exact hs.symm
  | ⟨1, _⟩ => show 0 * 2048 + d.val = d.val; omega

/-- The block of the tokens' first rows at a point. -/
theorem block_first (c : Dev nD) (t : Fin cfg0.N) (r : Fin 512) (d : Fin 2048) (s : Fin 9216) (hs : s.val = (grid0.coords t 0).val * 512 + r.val) :
    (iblk m c 1 t (ix2 r d : S512x2048.Idx) : EReal) = expert m c s 0 d := by
  show V m c main_v1 (((cfg0.win 1).blk t).view.emb (ix2 r d : S512x2048.Idx)) = _
  refine (congrArg (V m c main_v1) (?_ : _ = (ix2 s ⟨d.val, by omega⟩ : S9216x4096.Idx))).trans ((entry_pairs m c s ⟨d.val, by omega⟩).trans ?_)
  · funext a
    apply Fin.ext
    refine (Pipeline.Window.rect_emb_val win0_1 t (ix2 r d : S512x2048.Idx) a).trans ?_
    rw [(idx t).2.1]
    match a with
    | ⟨0, _⟩ => exact hs.symm
    | ⟨1, _⟩ => show 0 * 2048 + d.val = d.val; omega
  · exact congrArg₂ (fun i j => taken m c (ix2 i j)) (Fin.ext (by show s.val * 2 + d.val / 2048 = s.val * 2 + 0; omega))
      (Fin.ext (by show d.val % 2048 = d.val; omega))

/-- The block of the tokens' second rows at a point. -/
theorem block_second (c : Dev nD) (t : Fin cfg0.N) (r : Fin 512) (d : Fin 2048) (s : Fin 9216) (hs : s.val = (grid0.coords t 0).val * 512 + r.val) :
    (iblk m c 2 t (ix2 r d : S512x2048.Idx) : EReal) = expert m c s 1 d := by
  show V m c main_v1 (((cfg0.win 2).blk t).view.emb (ix2 r d : S512x2048.Idx)) = _
  refine (congrArg (V m c main_v1) (?_ : _ = (ix2 s ⟨2048 + d.val, by omega⟩ : S9216x4096.Idx))).trans ((entry_pairs m c s ⟨2048 + d.val, by omega⟩).trans ?_)
  · funext a
    apply Fin.ext
    refine (Pipeline.Window.rect_emb_val win0_2 t (ix2 r d : S512x2048.Idx) a).trans ?_
    rw [(idx t).2.2.1]
    match a with
    | ⟨0, _⟩ => exact hs.symm
    | ⟨1, _⟩ => show 1 * 2048 + d.val = 2048 + d.val; omega
  · exact congrArg₂ (fun i j => taken m c (ix2 i j)) (Fin.ext (by show s.val * 2 + (2048 + d.val) / 2048 = s.val * 2 + 1; omega))
      (Fin.ext (by show (2048 + d.val) % 2048 = d.val; omega))

/-- The gains' block at a point. -/
theorem block_gain (c : Dev nD) (t : Fin cfg0.N) (d : Fin 2048) : (iblk m c 3 t (ix2 0 d : S1x2048.Idx) : EReal) = gain m c d := by
  show V m c main_v6 (((cfg0.win 3).blk t).view.emb (ix2 0 d : S1x2048.Idx)) = _
  refine (congrArg (V m c main_v6) (?_ : _ = (ix2 0 d : S1x2048.Idx))).trans (entry_gain m c d)
  funext a
  apply Fin.ext
  refine (Pipeline.Window.rect_emb_val win0_3 t (ix2 0 d : S1x2048.Idx) a).trans ?_
  rw [(idx t).2.2.2.1]
  match a with
  | ⟨0, _⟩ => rfl
  | ⟨1, _⟩ => show 0 * 2048 + d.val = d.val; omega

/-- The offsets' block at a point. -/
theorem block_offset (c : Dev nD) (t : Fin cfg0.N) (d : Fin 2048) : (iblk m c 4 t (ix2 0 d : S1x2048.Idx) : EReal) = offset m c d := by
  show V m c main_v7 (((cfg0.win 4).blk t).view.emb (ix2 0 d : S1x2048.Idx)) = _
  refine (congrArg (V m c main_v7) (?_ : _ = (ix2 0 d : S1x2048.Idx))).trans (entry_offset m c d)
  funext a
  apply Fin.ext
  refine (Pipeline.Window.rect_emb_val win0_4 t (ix2 0 d : S1x2048.Idx) a).trans ?_
  rw [(idx t).2.2.2.2.1]
  match a with
  | ⟨0, _⟩ => rfl
  | ⟨1, _⟩ => show 0 * 2048 + d.val = d.val; omega

/-- What the call stores at a point is the result at the element's place in the array. -/
theorem stored_at (c : Dev nD) (t : Fin cfg0.N) (r : Fin 512) (d : Fin 2048) (s : Fin 9216) (hs : s.val = (grid0.coords t 0).val * 512 + r.val)
    (n : Fin 2048) (hn : n.val = d.val) :
    (k0_pay1 (F := Ideal) (iblk m c 0 t) (iblk m c 1 t) (iblk m c 2 t) (iblk m c 3 t) (iblk m c 4 t) (ix2 r d) : EReal) = out m c s n := by
  obtain rfl : n = d := Fin.ext hn
  refine (pay1_at (iblk m c 0 t) (iblk m c 1 t) (iblk m c 2 t) (iblk m c 3 t) (iblk m c 4 t) r n).trans ?_
  have h0 : (fun k : Fin 2048 => (iblk m c 0 t (ix2 r k : S512x2048.Idx) : EReal)) = resid m c s := funext fun k => block_resid m c t r k s hs
  have h1 : (fun k : Fin 2048 => (iblk m c 1 t (ix2 r k : S512x2048.Idx) : EReal)) = expert m c s 0 := funext fun k => block_first m c t r k s hs
  have h2 : (fun k : Fin 2048 => (iblk m c 2 t (ix2 r k : S512x2048.Idx) : EReal)) = expert m c s 1 := funext fun k => block_second m c t r k s hs
  have h3 : (fun k : Fin 2048 => (iblk m c 3 t (ix2 0 k : S1x2048.Idx) : EReal)) = gain m c := funext fun k => block_gain m c t k
  have h4 : (fun k : Fin 2048 => (iblk m c 4 t (ix2 0 k : S1x2048.Idx) : EReal)) = offset m c := funext fun k => block_offset m c t k
  unfold out
  rw [← h0, ← h1, ← h2, ← h3, ← h4]

/-- The output's array after the run. -/
theorem array5 (c : Dev nD) : (dats m 0 c).arrAt 5 (cfgs 0).N = (fun i : S9216x2048.Idx => (out m c (i 0) (i 1) : EReal)) := by
  refine (dats m 0 c).arrAt_eq_of_covers 5 _ (by decide +kernel) fun t _ y => ?_
  blk_simp
  rw [after0_5]; frame_out
  have key : ∀ y : S512x2048.Idx,
      (k0_pay1 (F := Ideal) (iblk m c 0 t) (iblk m c 1 t) (iblk m c 2 t) (iblk m c 3 t) (iblk m c 4 t) y : EReal)
        = out m c (((View.whole main_v8).slice (win0_5.rect t)).emb y 0) (((View.whole main_v8).slice (win0_5.rect t)).emb y 1) := by
    intro y
    have e0 := Pipeline.Window.rect_emb_val win0_5 t y 0
    have e1 := Pipeline.Window.rect_emb_val win0_5 t y 1
    rw [(idx t).2.2.2.2.2] at e0 e1
    refine (congrArg _ (eq_ix2 y)).trans ?_
    exact stored_at m c t (y 0) (y 1) _ e0 _ (e1.trans (by show 0 * 2048 + (y 1).val = (y 1).val; omega))
  exact key y

/-- The buffers after the call, before the host cuts its results out. -/
def mid (c : Dev nD) : Valuation τ sig (Elt Ideal) :=
  withArrays (cfgs 0).spec c (V0 m c) fun w => (dats m 0 c).arrAt w (cfgs 0).N

/-- After the call its output holds the result rows. -/
theorem mid_out (c : Dev nD) : mid m c (Proc.devRef .tc main_v8) = (fun i : S9216x2048.Idx => (out m c (i 0) (i 1) : EReal)) := by
  refine Eq.trans ?_ (array5 m c)
  refine withArrays_arr_shared (cfgs 0).spec c (V0 m c) (fun w => (dats m 0 c).arrAt w (cfgs 0).N) (fun w w' hne he => ?_) 5
  rcases (by decide : ∀ w w' : Fin 6, w ≠ w' → arrRef spec0 w = arrRef spec0 w' → w = 1 ∨ w = 2) w w' hne he with rfl | rfl
  · exact ((dats m 0 c).arrAt_in (w := 1) rfl (cfgs 0).N).trans (A_eq m c 1)
  · exact ((dats m 0 c).arrAt_in (w := 2) rfl (cfgs 0).N).trans (A_eq m c 2)

/-- The prompt's result rows. -/
theorem result_prompt (c : Dev nD) (t : Fin 8192) (d : Fin 2048) :
    (afterTail₀ cfgs (dats m) 0 (V0 m) [hostOps1] c main_v10 (ix3 0 t d : S1x8192x2048.Idx) : EReal) = out m c ⟨t.val, by omega⟩ d := by
  show StableHlo.after hostOps1 (mid m c) (Proc.devRef .tc main_v10) (ix3 0 t d : S1x8192x2048.Idx) = _
  entry_read
  rw [mid_out]
  pointwise

/-- The sample's result rows. -/
theorem result_sample (c : Dev nD) (b : Fin 128) (t : Fin 8) (d : Fin 2048) :
    (afterTail₀ cfgs (dats m) 0 (V0 m) [hostOps1] c main_v12 (ix3 b t d : S128x8x2048.Idx) : EReal)
      = out m c ⟨8192 + (b.val * 8 + t.val), by omega⟩ d := by
  show StableHlo.after hostOps1 (mid m c) (Proc.devRef .tc main_v12) (ix3 b t d : S128x8x2048.Idx) = _
  entry_read
  rw [mid_out]
  pointwise

end Cert.Kernel3Ideal.Combine

end

end
-- ==== Proof.CombineRef.lean ====
/- The values of the combination's reference: the layer norm of each token's joined row. -/
module

public import proofs.«01_k».proof.Proof.Norm
public import proofs.«01_k».proof.Proof.Gen.Reference3Ideal.Run
public import proofs.«01_k».proof.Proof.Gen.Reference3Ideal.Read
public import Idealize.ShloMosaic.Lib.Pointwise

@[expose] public section

set_option maxRecDepth 16384

noncomputable section

namespace Cert.Reference3Ideal.Combine

open Cert.Reference3Ideal Cert.Reference3Ideal.Read Cert.Norm
open Idealize.ShloMosaic Idealize.ShloMosaic.TcCoe

variable (y : FVec Ideal S9216x2048 .f32) (e : FVec Ideal S22528x2048 .f32) (p : IVec S18432 32) (g b : FVec Ideal S2x2x2048 .f32)

/-- A token's row from its expert of rank `k`. -/
def expert (s : Fin 9216) (k : Fin 2) (d : Fin 2048) : EReal := val_main_v0 (F := Ideal) e p (ix2 ⟨s.val * 2 + k.val, by omega⟩ d)

/-- A token's joined row. -/
def row (s : Fin 9216) (d : Fin 2048) : EReal := joined (fun k => y (ix2 s k)) (expert e p s 0) (expert e p s 1) d

/-- The joined rows. -/
theorem row_at (s : Fin 9216) (d : Fin 2048) : (val_main_v5 (F := Ideal) y e p (ix2 s d : S9216x2048.Idx) : EReal) = row y e p s d := by
  pointwise [val_main_v5, val_main_v4, val_main_v3, val_main_v2, val_main_v1, val_main_cst, val_main_cst_0]
  rw [Fin.sum_univ_two, ← add_assoc]
  rfl

/-- The normed rows. -/
theorem out_at (s : Fin 9216) (d : Fin 2048) :
    (val_main_v31 (F := Ideal) y e p g b (ix2 s d : S9216x2048.Idx) : EReal)
      = layer (row y e p s) (fun k => g (ix3 1 1 k)) (fun k => b (ix3 1 1 k)) d := by
  have h : val_main_v5 (F := Ideal) y e p = (fun i : S9216x2048.Idx => (row y e p (i 0) (i 1) : EReal)) := by
    funext i
    obtain ⟨s, n, rfl⟩ : ∃ (s : Fin 9216) (n : Fin 2048), i = (ix2 s n : S9216x2048.Idx) := ⟨_, _, eq_ix2 i⟩
    exact row_at y e p s n
  unfold val_main_v31 val_main_v26 val_main_v21 val_main_v20 val_main_v19 val_main_v18 val_main_v16 val_main_v14 val_main_v13 val_main_v12 val_main_v11 val_main_v10 val_main_v9 val_main_v7 val_main_v6
  rw [h]
  pointwise [val_main_v30, val_main_v29, val_main_v28, val_main_v27, val_main_v25, val_main_v24, val_main_v23, val_main_v22, val_main_v17, val_main_v15, val_main_v8,
    val_main_cst_1, val_main_cst_2, val_main_cst_3, val_main_cst_4, val_main_cst_5]
  rfl

/-- The prompt's result rows. -/
theorem result_prompt (t : Fin 8192) (d : Fin 2048) :
    (val_main_v33 (F := Ideal) y e p g b (ix3 0 t d : S1x8192x2048.Idx) : EReal)
      = layer (row y e p ⟨t.val, by omega⟩) (fun k => g (ix3 1 1 k)) (fun k => b (ix3 1 1 k)) d := by
  refine Eq.trans ?_ (out_at y e p g b ⟨t.val, by omega⟩ d)
  unfold val_main_v33 val_main_v32
  generalize val_main_v31 (F := Ideal) y e p g b = z
  pointwise

/-- The sample's result rows. -/
theorem result_sample (a : Fin 128) (t : Fin 8) (d : Fin 2048) :
    (val_main_v35 (F := Ideal) y e p g b (ix3 a t d : S128x8x2048.Idx) : EReal)
      = layer (row y e p ⟨8192 + (a.val * 8 + t.val), by omega⟩) (fun k => g (ix3 1 1 k)) (fun k => b (ix3 1 1 k)) d := by
  refine Eq.trans ?_ (out_at y e p g b ⟨8192 + (a.val * 8 + t.val), by omega⟩ d)
  unfold val_main_v35 val_main_v34
  generalize val_main_v31 (F := Ideal) y e p g b = z
  pointwise

end Cert.Reference3Ideal.Combine

end

end
-- ==== Proof.CombineMatch.lean ====
/- The combination and its reference leave the same results. -/
module

public import proofs.«01_k».proof.Defs
public import proofs.«01_k».proof.Proof.Combine
public import proofs.«01_k».proof.Proof.CombineRef
public import proofs.«01_k».proof.Proof.Gen.Kernel3Ideal
public import proofs.«01_k».proof.Proof.Gen.Reference3Ideal

@[expose] public section

set_option maxRecDepth 16384

noncomputable section

namespace Cert.Combine

open Cert.Kernel3Ideal Cert.Kernel3Ideal.Gen Cert.Kernel3Ideal.Combine
open Idealize.ShloMosaic Idealize.ShloMosaic.TcCoe Idealize.ShloMosaic.Pipeline Idealize.SL.Sem

variable (m : (ℓ : Loc nD τ sig) → Buf (Elt Ideal) ℓ)

/-- The combination and its reference, from equal arguments, end with equal results. -/
theorem value_combine : Cert.algebraic_Kernel3Ideal_Reference3Ideal := by
  intro m g m' g' hpre hagree
  refine ⟨fun c => afterTail₀ cfgs (dats m) 0 (V0 m) [hostOps1] c main_v10, fun c => afterTail₀ cfgs (dats m) 0 (V0 m) [hostOps1] c main_v12, ?_, ?_⟩
  · exact θ_run_mono (θ_run_and (run_main m g) (unchanged m g)) fun r h c =>
      ⟨(h.1 c).2 main_v10 (by decide), (h.1 c).2 main_v12 (by decide), h.2 c⟩
  · refine θ_run_mono (Cert.Reference3Ideal.Value.run m' g') fun r h c => ?_
    obtain ⟨h0, h1, h2, h3, h4⟩ := hagree c
    obtain ⟨e0, e1, ha⟩ := h c
    refine ⟨(e0.trans (Cert.Reference3Ideal.Read.val_main_v33_eq _ _)).trans ?_, (e1.trans (Cert.Reference3Ideal.Read.val_main_v35_eq _ _)).trans ?_, ha⟩
    · rw [h0, h1, h2, h3, h4]
      funext i
      obtain ⟨a, t, d, rfl⟩ : ∃ (a : Fin 1) (t : Fin 8192) (d : Fin 2048), i = (ix3 a t d : S1x8192x2048.Idx) := ⟨_, _, _, eq_ix3 i⟩
      obtain rfl : a = 0 := Subsingleton.elim _ _
      exact (Cert.Reference3Ideal.Combine.result_prompt _ _ _ _ _ t d).trans (result_prompt m c t d).symm
    · rw [h0, h1, h2, h3, h4]
      funext i
      obtain ⟨b, t, d, rfl⟩ : ∃ (b : Fin 128) (t : Fin 8) (d : Fin 2048), i = (ix3 b t d : S128x8x2048.Idx) := ⟨_, _, _, eq_ix3 i⟩
      exact (Cert.Reference3Ideal.Combine.result_sample _ _ _ _ _ b t d).trans (result_sample m c b t d).symm

end Cert.Combine

end

end
-- ==== Proof.Pairs.lean ====
/- Complex numbers held as pairs of reals among the extended reals: sums, products and powers of such pairs. -/
module

public import Idealize.ShloMosaic.PureOps.Ideal

@[expose] public section

noncomputable section

namespace Cert.Pairs

open Idealize.ShloMosaic

/-- `x` and `y` are the real and the imaginary part of `z`. -/
def Holds (z : ℂ) (x y : EReal) : Prop := x = (z.re : EReal) ∧ y = (z.im : EReal)

/-- A real number among the extended reals. -/
def IsReal (x : EReal) : Prop := ∃ r : ℝ, x = (r : EReal)

/-- Two real parts are those of one complex number. -/
theorem IsReal.pair {x y : EReal} (hx : IsReal x) (hy : IsReal y) : ∃ z : ℂ, Holds z x y := by
  obtain ⟨r, rfl⟩ := hx
  obtain ⟨s, rfl⟩ := hy
  exact ⟨⟨r, s⟩, rfl, rfl⟩

/-- An extended real whose absolute value is below infinity is a real. -/
theorem isReal_of_abs_lt {x : EReal} (h : (max x (-x) : EReal) < ⊤) : IsReal x := by
  induction x using EReal.rec with
  | bot => simp at h
  | top => simp at h
  | coe r => exact ⟨r, rfl⟩

/-- Sums of reals are reals. -/
theorem IsReal.add {x y : EReal} (hx : IsReal x) (hy : IsReal y) : IsReal (x + y) := by
  obtain ⟨r, rfl⟩ := hx
  obtain ⟨s, rfl⟩ := hy
  exact ⟨r + s, (EReal.coe_add r s).symm⟩

/-- Differences of reals are reals. -/
theorem IsReal.sub {x y : EReal} (hx : IsReal x) (hy : IsReal y) : IsReal (x - y) := by
  obtain ⟨r, rfl⟩ := hx
  obtain ⟨s, rfl⟩ := hy
  exact ⟨r - s, (EReal.coe_sub r s).symm⟩

/-- Products of reals are reals. -/
theorem IsReal.mul {x y : EReal} (hx : IsReal x) (hy : IsReal y) : IsReal (x * y) := by
  obtain ⟨r, rfl⟩ := hx
  obtain ⟨s, rfl⟩ := hy
  exact ⟨r * s, (EReal.coe_mul r s).symm⟩

/-- The exponential of a real is a real. -/
theorem IsReal.exp {x : EReal} (hx : IsReal x) : IsReal (Ideal.exp x) := by
  obtain ⟨r, rfl⟩ := hx
  exact ⟨_, rfl⟩

/-- The cosine of a real is a real. -/
theorem IsReal.cos {x : EReal} (hx : IsReal x) : IsReal (Ideal.cos x) := by
  obtain ⟨r, rfl⟩ := hx
  exact ⟨_, rfl⟩

/-- The sine of a real is a real. -/
theorem IsReal.sin {x : EReal} (hx : IsReal x) : IsReal (Ideal.sin x) := by
  obtain ⟨r, rfl⟩ := hx
  exact ⟨_, rfl⟩

/-- The quotient of a real by a sum of squares whose first square is not zero is a real. -/
theorem IsReal.div_squares {x a b : EReal} (hx : IsReal x) (ha : IsReal a) (hb : IsReal b) (h : a < 0) :
    IsReal (Ideal.div x (a * a + b * b)) := by
  obtain ⟨r, rfl⟩ := ha
  obtain ⟨s, rfl⟩ := hb
  have hr : r < 0 := by exact_mod_cast h
  have hne : r * r + s * s ≠ 0 := by nlinarith [mul_self_nonneg s, mul_pos_of_neg_of_neg hr hr]
  rw [← EReal.coe_mul, ← EReal.coe_mul, ← EReal.coe_add, Ideal.div_coe hne]
  exact hx.mul ⟨_, rfl⟩

/-- The smaller of a real and a negative real is a real. -/
theorem IsReal.min {x : EReal} (hx : IsReal x) (r : ℝ) : IsReal (min x (r : EReal)) := by
  obtain ⟨s, rfl⟩ := hx
  rcases min_choice ((s : ℝ) : EReal) ((r : ℝ) : EReal) with h | h <;> rw [h] <;> exact ⟨_, rfl⟩

/-- Sums of pairs. -/
theorem Holds.add {z w : ℂ} {x y x' y' : EReal} (h : Holds z x y) (h' : Holds w x' y') : Holds (z + w) (x + x') (y + y') := by
  obtain ⟨rfl, rfl⟩ := h
  obtain ⟨rfl, rfl⟩ := h'
  exact ⟨(EReal.coe_add _ _).symm, (EReal.coe_add _ _).symm⟩

/-- Products of pairs. -/
theorem Holds.mul {z w : ℂ} {x y x' y' : EReal} (h : Holds z x y) (h' : Holds w x' y') :
    Holds (z * w) (x * x' - y * y') (x * y' + y * x') := by
  obtain ⟨rfl, rfl⟩ := h
  obtain ⟨rfl, rfl⟩ := h'
  refine ⟨?_, ?_⟩
  · rw [Complex.mul_re]; push_cast; rfl
  · rw [Complex.mul_im]; push_cast; rfl

/-- The pair of one and zero. -/
theorem holds_one : Holds 1 1 0 := ⟨by simp, by simp⟩

/-- A pair scaled by a real. -/
theorem Holds.scale {z : ℂ} {x y u : EReal} {r : ℝ} (hu : u = (r : EReal)) (h : Holds z x y) : Holds (r * z) (u * x) (u * y) := by
  subst hu
  obtain ⟨rfl, rfl⟩ := h
  exact ⟨by rw [Complex.re_ofReal_mul]; push_cast; rfl, by rw [Complex.im_ofReal_mul]; push_cast; rfl⟩

/-- Sums of pairs over a finite index. -/
theorem Holds.sum {n : ℕ} {z : Fin n → ℂ} {x y : Fin n → EReal} (h : ∀ i, Holds (z i) (x i) (y i)) :
    Holds (∑ i, z i) (∑ i, x i) (∑ i, y i) := by
  classical
  have key : ∀ s : Finset (Fin n), Holds (∑ i ∈ s, z i) (∑ i ∈ s, x i) (∑ i ∈ s, y i) := fun s => by
    induction s using Finset.induction_on with
    | empty => exact ⟨by simp, by simp⟩
    | insert a s ha ih => rw [Finset.sum_insert ha, Finset.sum_insert ha, Finset.sum_insert ha]; exact (h a).add ih
  exact key _

/-- Two pairs of the same number are the same. -/
theorem Holds.unique {z w : ℂ} {x y x' y' : EReal} (h : Holds z x y) (h' : Holds w x' y') (e : z = w) : x = x' ∧ y = y' := by
  subst e
  exact ⟨h.1.trans h'.1.symm, h.2.trans h'.2.symm⟩

/-- A sum over eight groups of sixteen whose terms vanish outside one group is that group's sum. -/
theorem sum_group (f : Fin 128 → EReal) (q : Fin 8) (h : ∀ c : Fin 128, c.val / 16 ≠ q.val → f c = 0) :
    ∑ c, f c = ∑ d : Fin 16, f ⟨16 * q.val + d.val, by omega⟩ := by
  have hinj : Function.Injective fun d : Fin 16 => (⟨16 * q.val + d.val, by omega⟩ : Fin 128) := fun a b e => by
    have := congrArg Fin.val e
    simp only at this
    exact Fin.ext (by omega)
  rw [← Finset.sum_image (f := f) (s := Finset.univ) (g := fun d : Fin 16 => (⟨16 * q.val + d.val, by omega⟩ : Fin 128)) fun a _ b _ e => hinj e]
  refine (Finset.sum_subset (Finset.subset_univ _) fun c _ hc => h c fun e => hc ?_).symm
  refine Finset.mem_image.mpr ⟨⟨c.val % 16, by omega⟩, Finset.mem_univ _, Fin.ext ?_⟩
  show 16 * q.val + c.val % 16 = c.val
  omega

/-- Eight steps of a linear recurrence, in closed form. -/
theorem eight_steps (z : ℂ) (w h : ℕ → ℂ) (hs : ∀ t, h (t + 1) = z * h t + w t) :
    z ^ 8 * h 0 + (z ^ 7 * w 0 + z ^ 6 * w 1 + z ^ 5 * w 2 + z ^ 4 * w 3 + z ^ 3 * w 4 + z ^ 2 * w 5 + z ^ 1 * w 6 + z ^ 0 * w 7) = h 8 := by
  rw [hs 7, hs 6, hs 5, hs 4, hs 3, hs 2, hs 1, hs 0]
  ring

end Cert.Pairs
-- ==== Proof.Powers.lean ====
/- The host's operands of the state-space step: what the arrays the call reads hold, in terms of one another. -/
module

public import proofs.«01_k».proof.Proof.Pairs
public import proofs.«01_k».proof.Proof.Gen.Kernel4Ideal.Frame
public import proofs.«01_k».proof.Proof.Gen.Reference4Ideal.Read
public import Idealize.ShloMosaic.Lib.Pipeline.ValueKit
public import Idealize.ShloMosaic.Lib.Pointwise
public import Idealize.ShloMosaic.Lib.Claim

@[expose] public section

set_option maxRecDepth 16384

noncomputable section

namespace Cert.Kernel4Ideal.Powers

open Cert.Kernel4Ideal Cert.Kernel4Ideal.Gen Cert.Pairs
open Idealize.ShloMosaic Idealize.ShloMosaic.TcCoe Idealize.ShloMosaic.Pipeline

variable (m : (ℓ : Loc nD τ sig) → Buf (Elt Ideal) ℓ)

/-- The buffers after the first `n` of the host's operations. -/
def until_ (c : Dev nD) (n : ℕ) : Valuation τ sig (Elt Ideal) := StableHlo.after (hostOps0.take n) fun b => m (c, b)

/-- The buffers the call starts from: those after the first `n` operations, then the others. -/
theorem entry_split (c : Dev nD) (n : ℕ) : V0 m c = StableHlo.after (hostOps0.drop n) (until_ m c n) := by
  unfold V0 until_
  rw [List.flatten_cons, List.flatten_nil, List.append_nil, ← StableHlo.after_append, List.take_append_drop]

/-- The buffers after `n + k` operations: those after `n`, then `k` more. -/
theorem until_add (c : Dev nD) (n k : ℕ) : until_ m c (n + k) = StableHlo.after ((hostOps0.drop n).take k) (until_ m c n) := by
  unfold until_
  rw [← StableHlo.after_append, List.take_add]

/-- The powers of the discretized rate in the buffers `Y`, real parts. -/
def powRe (Y : Valuation τ sig (Elt Ideal)) (i : S128x64.Idx) : ℕ → EReal
  | 0 => Y (Proc.devRef .tc main_v49) i
  | 1 => Y (Proc.devRef .tc main_v53) i
  | 2 => Y (Proc.devRef .tc main_v59) i
  | 3 => Y (Proc.devRef .tc main_v65) i
  | 4 => Y (Proc.devRef .tc main_v71) i
  | 5 => Y (Proc.devRef .tc main_v77) i
  | 6 => Y (Proc.devRef .tc main_v83) i
  | 7 => Y (Proc.devRef .tc main_v89) i
  | _ => Y (Proc.devRef .tc main_v95) i

/-- The powers of the discretized rate in the buffers `Y`, imaginary parts. -/
def powIm (Y : Valuation τ sig (Elt Ideal)) (i : S128x64.Idx) : ℕ → EReal
  | 0 => Y (Proc.devRef .tc main_v50) i
  | 1 => Y (Proc.devRef .tc main_v56) i
  | 2 => Y (Proc.devRef .tc main_v62) i
  | 3 => Y (Proc.devRef .tc main_v68) i
  | 4 => Y (Proc.devRef .tc main_v74) i
  | 5 => Y (Proc.devRef .tc main_v80) i
  | 6 => Y (Proc.devRef .tc main_v86) i
  | 7 => Y (Proc.devRef .tc main_v92) i
  | _ => Y (Proc.devRef .tc main_v98) i

set_option maxHeartbeats 4000000 in
/-- The power of no factor is one. -/
theorem pow_none (c : Dev nD) (g : Fin 128) (p : Fin 64) :
    powRe (until_ m c 103) (ix2 g p) 0 = 1 ∧ powIm (until_ m c 103) (ix2 g p) 0 = 0 := by
  have e : until_ m c 103 = _ := until_add m c 51 52
  generalize until_ m c 51 = X at e
  simp only [powRe, powIm]
  rw [e]
  clear e
  dsimp only [hostOps0, List.drop, List.take]
  constructor
  · entry_read
    pointwise
  · entry_read
    pointwise

set_option maxHeartbeats 4000000 in
/-- One power more: the real and the imaginary part of the product with the rate. -/
theorem pow_next (c : Dev nD) (i : S128x64.Idx) (x y : EReal) (hx : until_ m c 103 (Proc.devRef .tc main_v17) i = x)
    (hy : until_ m c 103 (Proc.devRef .tc main_v21) i = y) (k : ℕ) (hk : k < 8) :
    powRe (until_ m c 103) i (k + 1) = powRe (until_ m c 103) i k * x - powIm (until_ m c 103) i k * y
      ∧ powIm (until_ m c 103) i (k + 1) = powRe (until_ m c 103) i k * y + powIm (until_ m c 103) i k * x := by
  subst hx hy
  have e : until_ m c 103 = _ := (congrArg (until_ m c) (by omega : 103 = (55 + 6 * k) + (48 - 6 * k))).trans (until_add m c (55 + 6 * k) (48 - 6 * k))
  generalize until_ m c (55 + 6 * k) = X at e
  rw [e]
  clear e
  interval_cases k <;>
  · simp only [powRe, powIm, Nat.reduceAdd]
    dsimp only [hostOps0, List.drop, List.take, Nat.reduceMul, Nat.reduceAdd, Nat.reduceSub]
    constructor <;> (entry_read; rfl)

/-- The powers of the rate are its powers. -/
theorem pow_holds (c : Dev nD) (g : Fin 128) (p : Fin 64) (z : ℂ)
    (hz : Holds z (until_ m c 103 (Proc.devRef .tc main_v17) (ix2 g p : S128x64.Idx)) (until_ m c 103 (Proc.devRef .tc main_v21) (ix2 g p : S128x64.Idx)))
    (k : ℕ) (hk : k ≤ 8) : Holds (z ^ k) (powRe (until_ m c 103) (ix2 g p) k) (powIm (until_ m c 103) (ix2 g p) k) := by
  induction k with
  | zero =>
    rw [(pow_none m c g p).1, (pow_none m c g p).2, _root_.pow_zero]
    exact holds_one
  | succ k ih =>
    obtain ⟨h1, h2⟩ := pow_next m c (ix2 g p) _ _ rfl rfl k (by omega)
    rw [h1, h2, pow_succ]
    exact (ih (by omega)).mul hz

set_option maxHeartbeats 4000000 in
/-- The stacked powers, real parts. -/
theorem stacked_re (c : Dev nD) (k : Fin 9) (g : Fin 128) (p : Fin 64) :
    until_ m c 113 (Proc.devRef .tc main_v108) (ix3 k g p : S9x128x64.Idx) = powRe (until_ m c 103) (ix2 g p) k.val := by
  have e : until_ m c 113 = _ := until_add m c 112 1
  have e' : until_ m c 112 = _ := until_add m c 103 9
  rw [e, e']
  clear e e'
  generalize until_ m c 103 = X
  generalize hY : StableHlo.after ((hostOps0.drop 103).take 9) X = Y
  dsimp only [hostOps0, List.drop, List.take]
  rw [StableHlo.after_cons, StableHlo.after_nil, StableHlo.nary_result]
  pointwise
  subst hY
  dsimp only [hostOps0, List.drop, List.take]
  obtain ⟨k, hk⟩ := k
  interval_cases k <;>
  · simp only [Nat.reduceSub, Nat.reduceLT, ↓reduceDIte, powRe]
    entry_read
    pointwise

/-- The stack stays until the call. -/
theorem stack_re (c : Dev nD) : V m c main_v108 = until_ m c 113 (Proc.devRef .tc main_v108) := by
  unfold V
  rw [entry_split m c 113]
  generalize until_ m c 113 = X
  dsimp only [hostOps0, List.drop]
  entry_read
  rfl

set_option maxHeartbeats 4000000 in
/-- The stacked powers, imaginary parts. -/
theorem stacked_im (c : Dev nD) (k : Fin 9) (g : Fin 128) (p : Fin 64) :
    until_ m c 123 (Proc.devRef .tc main_v118) (ix3 k g p : S9x128x64.Idx) = powIm (until_ m c 103) (ix2 g p) k.val := by
  have e : until_ m c 123 = _ := until_add m c 122 1
  have e' : until_ m c 122 = _ := until_add m c 103 19
  rw [e, e']
  clear e e'
  generalize until_ m c 103 = X
  generalize hY : StableHlo.after ((hostOps0.drop 103).take 19) X = Y
  dsimp only [hostOps0, List.drop, List.take]
  rw [StableHlo.after_cons, StableHlo.after_nil, StableHlo.nary_result]
  pointwise
  subst hY
  dsimp only [hostOps0, List.drop, List.take]
  obtain ⟨k, hk⟩ := k
  interval_cases k <;>
  · simp only [Nat.reduceSub, Nat.reduceLT, ↓reduceDIte, powIm]
    entry_read
    pointwise

/-- The stack stays until the call. -/
theorem stack_im (c : Dev nD) : V m c main_v118 = until_ m c 123 (Proc.devRef .tc main_v118) := by
  unfold V
  rw [entry_split m c 123]
  generalize until_ m c 123 = X
  dsimp only [hostOps0, List.drop]
  entry_read
  rfl

/-- The block-diagonal input operators, real parts, at an element. -/
theorem wb_re (c : Dev nD) (j : Fin 16) (s : Fin 8) (k : Fin 128) (p : Fin 512) (x e : EReal)
    (hx : V m c main_v131 (ix4 s.rev ⟨j.val * 8 + k.val / 16, by omega⟩ ⟨p.val % 64, by omega⟩ ⟨k.val % 16, by omega⟩ : S8x128x64x16.Idx) = x)
    (he : V m c main_v155 (ix2 ⟨k.val / 16, by omega⟩ ⟨p.val / 64, by omega⟩ : S8x8.Idx) = e) :
    (V m c main_v175 (ix4 j s k p : S16x8x128x512.Idx) : EReal) = x * e := by
  subst hx he
  unfold V
  rw [entry_split m c 170]
  generalize until_ m c 170 = X
  dsimp only [hostOps0, List.drop]
  entry_read
  pointwise
  rfl

/-- The same, imaginary parts. -/
theorem wb_im (c : Dev nD) (j : Fin 16) (s : Fin 8) (k : Fin 128) (p : Fin 512) (x e : EReal)
    (hx : V m c main_v144 (ix4 s.rev ⟨j.val * 8 + k.val / 16, by omega⟩ ⟨p.val % 64, by omega⟩ ⟨k.val % 16, by omega⟩ : S8x128x64x16.Idx) = x)
    (he : V m c main_v155 (ix2 ⟨k.val / 16, by omega⟩ ⟨p.val / 64, by omega⟩ : S8x8.Idx) = e) :
    (V m c main_v186 (ix4 j s k p : S16x8x128x512.Idx) : EReal) = x * e := by
  subst hx he
  unfold V
  rw [entry_split m c 170]
  generalize until_ m c 170 = X
  dsimp only [hostOps0, List.drop]
  entry_read
  pointwise
  rfl

/-- The identity matrix of the groups of a block. -/
theorem eye (c : Dev nD) (a b : Fin 8) : (V m c main_v155 (ix2 a b : S8x8.Idx) : EReal) = (if a = b then 1 else 0 : EReal) := by
  unfold V
  rw [entry_split m c 154]
  generalize until_ m c 154 = X
  dsimp only [hostOps0, List.drop]
  entry_read
  pointwise
  have h : ∀ a b : Fin 8, IntOp.cmpi CmpIPredicate.eq (IntOp.addi (BitVec.ofNat 32 a.val) 0#32) (BitVec.ofNat 32 b.val) = if a = b then 1#1 else 0#1 := by decide
  rw [h]
  split
  · show (((1#1 : BitVec 1).toNat : ℝ) : EReal) = 1
    simp
  · show (((0#1 : BitVec 1).toNat : ℝ) : EReal) = 0
    simp

/-- The powers applied to the input operators, real parts. -/
theorem ab_re (c : Dev nD) (k : Fin 8) (g : Fin 128) (p : Fin 64) (d : Fin 16) (x y a b : EReal)
    (hx : V m c main_v108 (ix3 ⟨k.val, by omega⟩ g p : S9x128x64.Idx) = x) (hy : V m c main_v118 (ix3 ⟨k.val, by omega⟩ g p : S9x128x64.Idx) = y)
    (ha : V m c main_v41 (ix3 g p d : S128x64x16.Idx) = a) (hb : V m c main_v48 (ix3 g p d : S128x64x16.Idx) = b) :
    (V m c main_v131 (ix4 k g p d : S8x128x64x16.Idx) : EReal) = x * a - y * b := by
  subst hx hy ha hb
  unfold V
  rw [entry_split m c 123]
  generalize until_ m c 123 = X
  dsimp only [hostOps0, List.drop]
  entry_read
  pointwise

/-- The same, imaginary parts. -/
theorem ab_im (c : Dev nD) (k : Fin 8) (g : Fin 128) (p : Fin 64) (d : Fin 16) (x y a b : EReal)
    (hx : V m c main_v108 (ix3 ⟨k.val, by omega⟩ g p : S9x128x64.Idx) = x) (hy : V m c main_v118 (ix3 ⟨k.val, by omega⟩ g p : S9x128x64.Idx) = y)
    (ha : V m c main_v41 (ix3 g p d : S128x64x16.Idx) = a) (hb : V m c main_v48 (ix3 g p d : S128x64x16.Idx) = b) :
    (V m c main_v144 (ix4 k g p d : S8x128x64x16.Idx) : EReal) = x * b + y * a := by
  subst hx hy ha hb
  unfold V
  rw [entry_split m c 123]
  generalize until_ m c 123 = X
  dsimp only [hostOps0, List.drop]
  entry_read
  pointwise

/-- The eighth power as the call reads it, real parts. -/
theorem last_re (c : Dev nD) (q : Fin 8192) (x : EReal)
    (hx : V m c main_v108 (ix3 8 ⟨q.val / 64, by omega⟩ ⟨q.val % 64, by omega⟩ : S9x128x64.Idx) = x) :
    (V m c main_v232 (ix2 0 q : S1x8192.Idx) : EReal) = x := by
  subst hx
  unfold V
  rw [entry_split m c 235]
  generalize until_ m c 235 = X
  dsimp only [hostOps0, List.drop]
  entry_read
  pointwise

/-- The same, imaginary parts. -/
theorem last_im (c : Dev nD) (q : Fin 8192) (x : EReal)
    (hx : V m c main_v118 (ix3 8 ⟨q.val / 64, by omega⟩ ⟨q.val % 64, by omega⟩ : S9x128x64.Idx) = x) :
    (V m c main_v235 (ix2 0 q : S1x8192.Idx) : EReal) = x := by
  subst hx
  unfold V
  rw [entry_split m c 235]
  generalize until_ m c 235 = X
  dsimp only [hostOps0, List.drop]
  entry_read
  pointwise

end Cert.Kernel4Ideal.Powers
-- ==== Proof.Finite.lean ====
/- What the precondition `all_finite` gives: every argument it names is an array of reals, and so are the discretized
   rate and the discretized input matrix of the state-space model. -/
module

public import proofs.«01_k».proof.Defs
public import proofs.«01_k».proof.Proof.Pairs
public import proofs.«01_k».proof.Proof.Gen.Pre_all_finite
public import proofs.«01_k».proof.Proof.Gen.Reference4Ideal.Read
public import Idealize.ShloMosaic.Lib.ReduceAll
public import Idealize.ShloMosaic.Lib.Pointwise

@[expose] public section

set_option maxRecDepth 16384

noncomputable section

namespace Cert.Finite

open Cert.Pairs
open Idealize.ShloMosaic Idealize.ShloMosaic.TcCoe

/-- The pattern of infinity is infinity. -/
theorem inf_bits : (Ideal.ofBits .f32 0x7F800000#32 : EReal) = ⊤ := by
  simp [Ideal.ofBits, Ideal.ieee]

/-- An element whose absolute value compares below infinity is a real. -/
theorem real_of_bit {s : Shape} (x b : FVec Ideal s .f32) (i : s.Idx) (hb : (b i : EReal) = ⊤)
    (h : cmpf (F := Ideal) .olt (Host.absf x) b i = 1#1) : IsReal (x i) := by
  apply isReal_of_abs_lt
  have h' : Ideal.cmp .olt (max (x i) (-(x i))) (b i) = 1#1 := h
  rw [hb] at h'
  by_contra hn
  simp [Ideal.cmp, hn] at h'

/-- Under the precondition the arrays it names hold reals. -/
theorem args_real (x0 : FVec Ideal Pre_all_finite.S1152x8x2048 .f32) (x1 x2 : FVec Ideal Pre_all_finite.S1x128x128x64 .f32)
    (x3 x4 : FVec Ideal Pre_all_finite.S1x128x64 .f32) (x5 : FVec Ideal Pre_all_finite.S1x128 .f32)
    (x6 x7 : FVec Ideal Pre_all_finite.S1x128x64x16 .f32) (x8 x9 : FVec Ideal Pre_all_finite.S1x128x16x64 .f32) (x10 : FVec Ideal Pre_all_finite.S1x128x16 .f32)
    (h : Pre_all_finite.fn (F := Ideal) x0 x1 x2 x3 x4 x5 x6 x7 x8 x9 x10 ix0 = 1#1) :
    (∀ i, IsReal (x0 i)) ∧ (∀ i, IsReal (x1 i)) ∧ (∀ i, IsReal (x2 i)) ∧ (∀ i, IsReal (x3 i)) ∧ (∀ i, IsReal (x4 i)) ∧ (∀ i, IsReal (x5 i))
      ∧ (∀ i, IsReal (x6 i)) ∧ (∀ i, IsReal (x7 i)) := by
  have hsub : Subsingleton Pre_all_finite.S_.Idx := ⟨fun a b => funext fun k => k.elim0⟩
  dsimp only [Pre_all_finite.fn, Pre_all_finite.fn_part1, Pre_all_finite.fn_part2] at h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨fun i => real_of_bit _ _ i inf_bits (Host.reduce_andi_all _ _ _ _ _ h0 i), fun i => real_of_bit _ _ i inf_bits (Host.reduce_andi_all _ _ _ _ _ h1 i),
    fun i => real_of_bit _ _ i inf_bits (Host.reduce_andi_all _ _ _ _ _ h2 i), fun i => real_of_bit _ _ i inf_bits (Host.reduce_andi_all _ _ _ _ _ h3 i),
    fun i => real_of_bit _ _ i inf_bits (Host.reduce_andi_all _ _ _ _ _ h4 i), fun i => real_of_bit _ _ i inf_bits (Host.reduce_andi_all _ _ _ _ _ h5 i),
    fun i => real_of_bit _ _ i inf_bits (Host.reduce_andi_all _ _ _ _ _ h6 i), fun i => real_of_bit _ _ i inf_bits (Host.reduce_andi_all _ _ _ _ _ h7 i)⟩

open Cert.Reference4Ideal Cert.Reference4Ideal.Read

/-- The bound on the rate's real part is a negative real. -/
theorem bound_neg : ∃ r : ℝ, r < 0 ∧ (Ideal.ofBits .f32 0xB8D1B717#32 : EReal) = (r : EReal) := by
  refine ⟨_, ?_, rfl⟩
  norm_num
  rw [if_pos (by decide)]
  exact neg_lt_zero.mpr (by positivity)

variable (x3 x4 : FVec Ideal S1x128x64 .f32) (x5 : FVec Ideal S1x128 .f32) (x6 x7 : FVec Ideal S1x128x64x16 .f32)

/-- The discretized rate of real parameters is a complex number. -/
theorem rate_holds (h3 : ∀ i, IsReal (x3 i)) (h4 : ∀ i, IsReal (x4 i)) (h5 : ∀ i, IsReal (x5 i)) (g : Fin 128) (p : Fin 64) :
    ∃ z : ℂ, Holds z (val_main_v15 (F := Ideal) x3 x4 x5 (ix2 g p)) (val_main_v19 (F := Ideal) x3 x4 x5 (ix2 g p)) := by
  obtain ⟨r, hr, er⟩ := bound_neg
  have hl : IsReal (min (x3 (ix3 0 g p)) (val_main_cst (F := Ideal) ix0)) := by
    show IsReal (min _ (Ideal.ofBits .f32 0xB8D1B717#32 : EReal))
    rw [er]
    exact (h3 _).min r
  apply IsReal.pair
  · pointwise [val_main_v0, val_main_v1, val_main_v2, val_main_v3, val_main_v4, val_main_v5, val_main_v6, val_main_v7, val_main_v8, val_main_v9, val_main_v10, val_main_v11, val_main_v12, val_main_v13, val_main_v14, val_main_v15]
    exact (hl.mul (h5 _).exp).exp.mul ((h4 _).mul (h5 _).exp).cos
  · pointwise [val_main_v0, val_main_v1, val_main_v2, val_main_v3, val_main_v4, val_main_v5, val_main_v6, val_main_v7, val_main_v8, val_main_v9, val_main_v10, val_main_v11, val_main_v16, val_main_v17, val_main_v18, val_main_v19]
    exact (hl.mul (h5 _).exp).exp.mul ((h4 _).mul (h5 _).exp).sin

/-- The discretized input matrix of real parameters is complex. -/
theorem input_holds (h3 : ∀ i, IsReal (x3 i)) (h4 : ∀ i, IsReal (x4 i)) (h5 : ∀ i, IsReal (x5 i)) (h6 : ∀ i, IsReal (x6 i)) (h7 : ∀ i, IsReal (x7 i))
    (g : Fin 128) (p : Fin 64) (d : Fin 16) :
    ∃ w : ℂ, Holds w (val_main_v41 (F := Ideal) x3 x4 x5 x6 x7 (ix3 g p d)) (val_main_v50 (F := Ideal) x3 x4 x5 x6 x7 (ix3 g p d)) := by
  obtain ⟨z, hz⟩ := rate_holds x3 x4 x5 h3 h4 h5 g p
  have ha : IsReal (val_main_v15 (F := Ideal) x3 x4 x5 (ix2 g p)) := ⟨_, hz.1⟩
  have hb : IsReal (val_main_v19 (F := Ideal) x3 x4 x5 (ix2 g p)) := ⟨_, hz.2⟩
  obtain ⟨r, hr, er⟩ := bound_neg
  have hcst : (val_main_cst (F := Ideal) ix0 : EReal) = (r : EReal) := er
  have hl : IsReal (min (x3 (ix3 0 g p)) (val_main_cst (F := Ideal) ix0)) := by
    rw [hcst]
    exact (h3 _).min r
  have hneg : min (x3 (ix3 0 g p) : EReal) (val_main_cst (F := Ideal) ix0) < 0 := by
    rw [hcst]
    exact (min_le_right _ _).trans_lt (by exact_mod_cast hr)
  have h1 : IsReal (1 : EReal) := ⟨1, rfl⟩
  have hf : IsReal (val_main_v28 (F := Ideal) x3 x4 x5 (ix2 g p)) := by
    pointwise [val_main_v2, val_main_v3, val_main_v4, val_main_v5, val_main_v20, val_main_cst_0, val_main_v21, val_main_v22, val_main_v23, val_main_v24, val_main_v25, val_main_v26, val_main_v27, val_main_v28]
    exact (((ha.sub h1).mul hl).add (hb.mul (h4 _))).div_squares hl (h4 _) hneg
  have hg : IsReal (val_main_v32 (F := Ideal) x3 x4 x5 (ix2 g p)) := by
    pointwise [val_main_v2, val_main_v3, val_main_v4, val_main_v5, val_main_v20, val_main_cst_0, val_main_v21, val_main_v22, val_main_v23, val_main_v24, val_main_v29, val_main_v30, val_main_v31, val_main_v32]
    exact ((hb.mul hl).sub ((ha.sub h1).mul (h4 _))).div_squares hl (h4 _) hneg
  apply IsReal.pair
  · pointwise [val_main_v33, val_main_v34, val_main_v35, val_main_v36, val_main_v37, val_main_v38, val_main_v39, val_main_v40, val_main_v41]
    exact (hf.mul (h6 _)).sub (hg.mul (h7 _))
  · pointwise [val_main_v42, val_main_v43, val_main_v44, val_main_v45, val_main_v46, val_main_v47, val_main_v48, val_main_v49, val_main_v50]
    exact (hf.mul (h7 _)).add (hg.mul (h6 _))

end Cert.Finite
-- ==== Proof.Discrete.lean ====
/- The operands the call reads, as complex numbers: the eighth power of the discretized rate, and the input operators,
   which are a power of the rate times the discretized input matrix inside a group and zero between groups. -/
module

public import proofs.«01_k».proof.Proof.Powers
public import proofs.«01_k».proof.Proof.Finite

@[expose] public section

set_option maxRecDepth 16384

noncomputable section

namespace Cert.Kernel4Ideal.Discrete

open Cert.Kernel4Ideal Cert.Kernel4Ideal.Gen Cert.Kernel4Ideal.Powers Cert.Pairs
open Idealize.ShloMosaic Idealize.ShloMosaic.TcCoe Idealize.ShloMosaic.Pipeline
open Cert.Reference4Ideal.Read (val_main_v15 val_main_v19 val_main_v41 val_main_v50)

variable (m : (ℓ : Loc nD τ sig) → Buf (Elt Ideal) ℓ)

/-- The discretized rate's real parts, as the reference computes them. -/
def rateRe (c : Dev nD) : FVec Ideal S128x64 .f32 :=
  val_main_v15 (F := Ideal) (m ((c : Thread nD τ).loc main_arg3)) (m ((c : Thread nD τ).loc main_arg4)) (m ((c : Thread nD τ).loc main_arg5))

/-- The discretized rate's imaginary parts. -/
def rateIm (c : Dev nD) : FVec Ideal S128x64 .f32 :=
  val_main_v19 (F := Ideal) (m ((c : Thread nD τ).loc main_arg3)) (m ((c : Thread nD τ).loc main_arg4)) (m ((c : Thread nD τ).loc main_arg5))

/-- The discretized input matrix's real parts. -/
def inputRe (c : Dev nD) : FVec Ideal S128x64x16 .f32 :=
  val_main_v41 (F := Ideal) (m ((c : Thread nD τ).loc main_arg3)) (m ((c : Thread nD τ).loc main_arg4)) (m ((c : Thread nD τ).loc main_arg5))
    (m ((c : Thread nD τ).loc main_arg6)) (m ((c : Thread nD τ).loc main_arg7))

/-- The discretized input matrix's imaginary parts. -/
def inputIm (c : Dev nD) : FVec Ideal S128x64x16 .f32 :=
  val_main_v50 (F := Ideal) (m ((c : Thread nD τ).loc main_arg3)) (m ((c : Thread nD τ).loc main_arg4)) (m ((c : Thread nD τ).loc main_arg5))
    (m ((c : Thread nD τ).loc main_arg6)) (m ((c : Thread nD τ).loc main_arg7))

set_option maxHeartbeats 4000000 in
/-- The host's rate is the reference's. -/
theorem rate_eq (c : Dev nD) : until_ m c 51 (Proc.devRef .tc main_v17) = rateRe m c ∧ until_ m c 51 (Proc.devRef .tc main_v21) = rateIm m c := by
  unfold until_
  dsimp only [hostOps0, List.take]
  constructor
  · entry_read
    rfl
  · entry_read
    rfl

set_option maxHeartbeats 4000000 in
/-- The host's input matrix is the reference's. -/
theorem input_eq (c : Dev nD) : until_ m c 51 (Proc.devRef .tc main_v41) = inputRe m c ∧ until_ m c 51 (Proc.devRef .tc main_v48) = inputIm m c := by
  unfold until_
  dsimp only [hostOps0, List.take]
  constructor
  · entry_read
    rfl
  · entry_read
    rfl

/-- The rate is kept while the powers are computed. -/
theorem rate_kept (c : Dev nD) : until_ m c 103 (Proc.devRef .tc main_v17) = rateRe m c ∧ until_ m c 103 (Proc.devRef .tc main_v21) = rateIm m c := by
  rw [← (rate_eq m c).1, ← (rate_eq m c).2]
  have e : until_ m c 103 = _ := until_add m c 51 52
  rw [e]
  clear e
  generalize until_ m c 51 = X
  dsimp only [hostOps0, List.drop, List.take]
  constructor <;> (entry_read; rfl)

set_option maxHeartbeats 4000000 in
/-- The input matrix is kept until the call. -/
theorem input_kept (c : Dev nD) : V m c main_v41 = inputRe m c ∧ V m c main_v48 = inputIm m c := by
  rw [← (input_eq m c).1, ← (input_eq m c).2]
  unfold V
  rw [entry_split m c 51]
  generalize until_ m c 51 = X
  dsimp only [hostOps0, List.drop]
  constructor <;> (entry_read; rfl)

/-- The previous states' real parts as the call reads them. -/
theorem state_re (c : Dev nD) (b : Fin 128) (q : Fin 8192) (x : EReal)
    (hx : V m c main_arg1 (ix4 0 b ⟨q.val / 64, by omega⟩ ⟨q.val % 64, by omega⟩ : S1x128x128x64.Idx) = x) :
    (V m c main_v238 (ix2 b q : S128x8192.Idx) : EReal) = x := by
  subst hx
  unfold V
  rw [entry_split m c 242]
  generalize until_ m c 242 = X
  dsimp only [hostOps0, List.drop]
  entry_read
  pointwise

/-- The previous states' imaginary parts as the call reads them. -/
theorem state_im (c : Dev nD) (b : Fin 128) (q : Fin 8192) (x : EReal)
    (hx : V m c main_arg2 (ix4 0 b ⟨q.val / 64, by omega⟩ ⟨q.val % 64, by omega⟩ : S1x128x128x64.Idx) = x) :
    (V m c main_v240 (ix2 b q : S128x8192.Idx) : EReal) = x := by
  subst hx
  unfold V
  rw [entry_split m c 242]
  generalize until_ m c 242 = X
  dsimp only [hostOps0, List.drop]
  entry_read
  pointwise

/-- A pair kept by a mask. -/
theorem times_one {z : ℂ} {x y : EReal} (hx : x = (z.re : EReal) * 1) (hy : y = (z.im : EReal) * 1) : Holds z x y :=
  ⟨hx.trans (mul_one _), hy.trans (mul_one _)⟩

/-- A pair struck out by a mask. -/
theorem times_zero {a b x y : EReal} (hx : x = a * 0) (hy : y = b * 0) : Holds 0 x y :=
  ⟨by rw [hx, mul_zero]; simp, by rw [hy, mul_zero]; simp⟩

section
variable (c : Dev nD) (z : Fin 128 → Fin 64 → ℂ) (w : Fin 128 → Fin 64 → Fin 16 → ℂ)
  (hz : ∀ g p, Holds (z g p) (rateRe m c (ix2 g p)) (rateIm m c (ix2 g p)))
  (hw : ∀ g p d, Holds (w g p d) (inputRe m c (ix3 g p d)) (inputIm m c (ix3 g p d)))
include hz

/-- The stacked powers are the rate's powers. -/
theorem stack_holds (k : Fin 9) (g : Fin 128) (p : Fin 64) :
    Holds (z g p ^ k.val) (V m c main_v108 (ix3 k g p : S9x128x64.Idx)) (V m c main_v118 (ix3 k g p : S9x128x64.Idx)) := by
  rw [stack_re, stack_im, stacked_re, stacked_im]
  refine pow_holds m c g p (z g p) ?_ k.val (by omega)
  rw [(rate_kept m c).1, (rate_kept m c).2]
  exact hz g p

/-- The eighth power as the call reads it. -/
theorem last_holds (q : Fin 8192) :
    Holds (z ⟨q.val / 64, by omega⟩ ⟨q.val % 64, by omega⟩ ^ 8) (V m c main_v232 (ix2 0 q : S1x8192.Idx)) (V m c main_v235 (ix2 0 q : S1x8192.Idx)) := by
  have h := stack_holds m c z hz 8 ⟨q.val / 64, by omega⟩ ⟨q.val % 64, by omega⟩
  exact ⟨last_re m c q _ h.1, last_im m c q _ h.2⟩

include hw

/-- A power applied to the input matrix. -/
theorem applied_holds (k : Fin 8) (g : Fin 128) (p : Fin 64) (d : Fin 16) :
    Holds (z g p ^ k.val * w g p d) (V m c main_v131 (ix4 k g p d : S8x128x64x16.Idx)) (V m c main_v144 (ix4 k g p d : S8x128x64x16.Idx)) := by
  have h := stack_holds m c z hz ⟨k.val, by omega⟩ g p
  obtain ⟨e1, e2⟩ := input_kept m c
  have h' := h.mul (hw g p d)
  exact ⟨(ab_re m c k g p d _ _ _ _ rfl rfl (congrFun e1 _) (congrFun e2 _)).trans h'.1,
    (ab_im m c k g p d _ _ _ _ rfl rfl (congrFun e1 _) (congrFun e2 _)).trans h'.2⟩

/-- The input operators inside a group. -/
theorem operator_holds (j : Fin 16) (s : Fin 8) (k : Fin 128) (p : Fin 512) (g : Fin 128) (p' : Fin 64) (d : Fin 16)
    (hg : g.val = j.val * 8 + k.val / 16) (hp : p'.val = p.val % 64) (hd : d.val = k.val % 16) (he : k.val / 16 = p.val / 64) :
    Holds (z g p' ^ (7 - s.val) * w g p' d) (V m c main_v175 (ix4 j s k p : S16x8x128x512.Idx)) (V m c main_v186 (ix4 j s k p : S16x8x128x512.Idx)) := by
  have e := eye m c ⟨k.val / 16, by omega⟩ ⟨p.val / 64, by omega⟩
  rw [if_pos (Fin.ext he)] at e
  have h := applied_holds m c z w hz hw s.rev g p' d
  have hs : s.rev.val = 7 - s.val := by rw [Fin.val_rev]; omega
  rw [hs] at h
  have l1 : j.val * 8 + k.val / 16 < 128 := by clear hg; omega
  have l2 : p.val % 64 < 64 := Nat.mod_lt _ (by decide)
  have l3 : k.val % 16 < 16 := Nat.mod_lt _ (by decide)
  obtain rfl : g = ⟨j.val * 8 + k.val / 16, l1⟩ := Fin.ext hg
  obtain rfl : p' = ⟨p.val % 64, l2⟩ := Fin.ext hp
  obtain rfl : d = ⟨k.val % 16, l3⟩ := Fin.ext hd
  exact times_one (wb_re m c j s k p _ _ h.1 e) (wb_im m c j s k p _ _ h.2 e)

omit hz hw in
/-- Between groups the input operators vanish. -/
theorem operator_zero (j : Fin 16) (s : Fin 8) (k : Fin 128) (p : Fin 512) (he : k.val / 16 ≠ p.val / 64) :
    Holds 0 (V m c main_v175 (ix4 j s k p : S16x8x128x512.Idx)) (V m c main_v186 (ix4 j s k p : S16x8x128x512.Idx)) := by
  have e := eye m c ⟨k.val / 16, by omega⟩ ⟨p.val / 64, by omega⟩
  rw [if_neg (fun h => he (congrArg Fin.val h))] at e
  exact times_zero (wb_re m c j s k p _ _ rfl e) (wb_im m c j s k p _ _ rfl e)

end

end Cert.Kernel4Ideal.Discrete
-- ==== Proof.Step.lean ====
/- The state-space step: what the call stores of the states, at an element. -/
module

public import proofs.«01_k».proof.Proof.Pairs
public import proofs.«01_k».proof.Proof.Gen.Kernel4Ideal.Frame
public import Idealize.ShloMosaic.Lib.Pipeline.ValueKit
public import Idealize.ShloMosaic.Lib.Pointwise
public import Idealize.ShloMosaic.Lib.Claim

@[expose] public section

set_option maxRecDepth 16384

noncomputable section

namespace Cert.Kernel4Ideal.Step

open Cert.Kernel4Ideal Cert.Kernel4Ideal.Gen Cert.Pairs
open Idealize.ShloMosaic Idealize.ShloMosaic.TcCoe Idealize.ShloMosaic.Pipeline

variable (x0 : Vec Ideal S128x8x128 .f32) (x1 : Vec Ideal S1x8x128x128 .bf16) (x2 x3 : Vec Ideal S1x8x128x512 .bf16)
  (x4 x5 : Vec Ideal S1x8x512x128 .bf16) (x6 x7 : Vec Ideal S1x512 .f32) (x8 : Vec Ideal S1x128 .f32) (x9 x10 : Vec Ideal S128x512 .f32)

/-- A tick's inputs through its operator. -/
def driven (u : Vec Ideal S128x8x128 .f32) (w : Vec Ideal S1x8x128x512 .bf16) (b : Fin 128) (p : Fin 512) (s : Fin 8) : EReal :=
  ∑ k : Fin 128, (u (ix3 b s k) : EReal) * w (ix4 0 s k p)

/-- The stored real parts. -/
theorem out12_at (b : Fin 128) (p : Fin 512) :
    (out0_12 (F := Ideal) x0 x1 x2 x3 x4 x5 x6 x7 x8 x9 x10 (ix2 b p) : EReal)
      = ((x6 (ix2 0 p) : EReal) * x9 (ix2 b p) - x7 (ix2 0 p) * x10 (ix2 b p))
        + (driven x0 x2 b p 0 + driven x0 x2 b p 1 + driven x0 x2 b p 2 + driven x0 x2 b p 3 + driven x0 x2 b p 4 + driven x0 x2 b p 5
          + driven x0 x2 b p 6 + driven x0 x2 b p 7) := by
  frame_out
  unfold driven
  pointwise [k0_pay2, k0_pay3, k0_pay4, k0_pay5, k0_pay6, k0_pay7, k0_pay8, k0_pay9, k0_pay10, k0_pay11, k0_pay13, k0_pay15, k0_pay16, k0_pay17, k0_pay18, k0_pay19, k0_pay20, k0_pay49, k0_pay50, k0_pay51, k0_pay52, k0_pay53, k0_pay54, k0_pay55]

/-- The stored imaginary parts. -/
theorem out13_at (b : Fin 128) (p : Fin 512) :
    (out0_13 (F := Ideal) x0 x1 x2 x3 x4 x5 x6 x7 x8 x9 x10 (ix2 b p) : EReal)
      = ((x6 (ix2 0 p) : EReal) * x10 (ix2 b p) + x7 (ix2 0 p) * x9 (ix2 b p))
        + (driven x0 x3 b p 0 + driven x0 x3 b p 1 + driven x0 x3 b p 2 + driven x0 x3 b p 3 + driven x0 x3 b p 4 + driven x0 x3 b p 5
          + driven x0 x3 b p 6 + driven x0 x3 b p 7) := by
  frame_out
  unfold driven
  pointwise [k0_pay2, k0_pay3, k0_pay4, k0_pay5, k0_pay6, k0_pay7, k0_pay8, k0_pay9, k0_pay12, k0_pay14, k0_pay16, k0_pay17, k0_pay18, k0_pay19, k0_pay21, k0_pay48, k0_pay49, k0_pay50, k0_pay51, k0_pay52, k0_pay53, k0_pay54, k0_pay55]

end Cert.Kernel4Ideal.Step
-- ==== Proof.States.lean ====
/- The state-space step: the arrays its call leaves and the states the host hands back, in terms of the operands. -/
module

public import proofs.«01_k».proof.Proof.Discrete
public import proofs.«01_k».proof.Proof.Step

@[expose] public section

set_option maxRecDepth 16384

noncomputable section

namespace Cert.Kernel4Ideal.States

open Cert.Kernel4Ideal Cert.Kernel4Ideal.Gen Cert.Kernel4Ideal.Step Cert.Kernel4Ideal.Discrete Cert.Pairs
open Idealize.ShloMosaic Idealize.ShloMosaic.TcCoe Idealize.ShloMosaic.Pipeline

variable (m : (ℓ : Loc nD τ sig) → Buf (Elt Ideal) ℓ)

/-- The windows' index maps at a point. -/
theorem idx (t : Fin cfg0.N) :
    (win0_0.index t : Fin _ → Nat) = ![8, 0, (grid0.coords t 0).val] ∧ (win0_2.index t : Fin _ → Nat) = ![(grid0.coords t 0).val, 0, 0, 0]
      ∧ (win0_3.index t : Fin _ → Nat) = ![(grid0.coords t 0).val, 0, 0, 0] ∧ (win0_6.index t : Fin _ → Nat) = ![0, (grid0.coords t 0).val]
      ∧ (win0_7.index t : Fin _ → Nat) = ![0, (grid0.coords t 0).val] ∧ (win0_9.index t : Fin _ → Nat) = ![0, (grid0.coords t 0).val]
      ∧ (win0_10.index t : Fin _ → Nat) = ![0, (grid0.coords t 0).val] ∧ (win0_12.index t : Fin _ → Nat) = ![0, (grid0.coords t 0).val]
      ∧ (win0_13.index t : Fin _ → Nat) = ![0, (grid0.coords t 0).val] :=
  (by decide +kernel : ∀ t : Fin grid0.N,
    (win0_0.index t : Fin _ → Nat) = ![8, 0, (grid0.coords t 0).val] ∧ (win0_2.index t : Fin _ → Nat) = ![(grid0.coords t 0).val, 0, 0, 0]
      ∧ (win0_3.index t : Fin _ → Nat) = ![(grid0.coords t 0).val, 0, 0, 0] ∧ (win0_6.index t : Fin _ → Nat) = ![0, (grid0.coords t 0).val]
      ∧ (win0_7.index t : Fin _ → Nat) = ![0, (grid0.coords t 0).val] ∧ (win0_9.index t : Fin _ → Nat) = ![0, (grid0.coords t 0).val]
      ∧ (win0_10.index t : Fin _ → Nat) = ![0, (grid0.coords t 0).val] ∧ (win0_12.index t : Fin _ → Nat) = ![0, (grid0.coords t 0).val]
      ∧ (win0_13.index t : Fin _ → Nat) = ![0, (grid0.coords t 0).val]) t

/-- The tokens' block at a point. -/
theorem block_inputs (c : Dev nD) (t : Fin cfg0.N) (b : Fin 128) (s : Fin 8) (k : Fin 128) (n : Fin 2048)
    (hn : n.val = (grid0.coords t 0).val * 128 + k.val) :
    (iblk m c 0 t (ix3 b s k : S128x8x128.Idx) : EReal) = m ((c : Thread nD τ).loc main_arg0) (ix3 ⟨1024 + b.val, by omega⟩ s n : S1152x8x2048.Idx) := by
  show V m c main_arg0 (((cfg0.win 0).blk t).view.emb (ix3 b s k : S128x8x128.Idx)) = _
  refine (congrFun (V_main_arg0 m c) _).trans
    (congrArg (m ((c : Thread nD τ).loc main_arg0)) (?_ : _ = (ix3 ⟨1024 + b.val, by omega⟩ s n : S1152x8x2048.Idx)))
  funext a
  apply Fin.ext
  refine (Pipeline.Window.rect_emb_val win0_0 t (ix3 b s k : S128x8x128.Idx) a).trans ?_
  rw [(idx t).1]
  match a with
  | ⟨0, _⟩ => show 8 * 128 + b.val = 1024 + b.val; omega
  | ⟨1, _⟩ => show 0 * 8 + s.val = s.val; omega
  | ⟨2, _⟩ => exact hn.symm

/-- An operator's block reads its array at the block's place. -/
theorem read2 (A : S16x8x128x512.Idx → EReal) (t : Fin cfg0.N) (i : S1x8x128x512.Idx) :
    (((cfg0.win 2).blk t).view.read (Elt Ideal) A i : EReal) = A (((cfg0.win 2).blk t).view.emb i) := rfl

/-- The same for the imaginary parts' array. -/
theorem read3 (A : S16x8x128x512.Idx → EReal) (t : Fin cfg0.N) (i : S1x8x128x512.Idx) :
    (((cfg0.win 3).blk t).view.read (Elt Ideal) A i : EReal) = A (((cfg0.win 3).blk t).view.emb i) := rfl

/-- The place of an element of an operator's block in the array. -/
theorem place (y : S1x8x128x512.Idx) (x : S16x8x128x512.Idx) (t : Fin cfg0.N) (j : Fin 16) (s : Fin 8) (k : Fin 128) (p : Fin 512)
    (hj : j.val = (grid0.coords t 0).val) (hy : y = ix4 0 s k p)
    (h : ∀ a, (x a).val = (![(grid0.coords t 0).val, 0, 0, 0] : Fin 4 → Nat) a * (![1, 8, 128, 512] : Fin 4 → Nat) a + (y a).val) :
    x = ix4 j s k p := by
  subst hy
  funext a
  apply Fin.ext
  refine (h a).trans ?_
  match a with
  | ⟨0, _⟩ => show (grid0.coords t 0).val * 1 + 0 = j.val; omega
  | ⟨1, _⟩ => show 0 * 8 + s.val = s.val; omega
  | ⟨2, _⟩ => show 0 * 128 + k.val = k.val; omega
  | ⟨3, _⟩ => show 0 * 512 + p.val = p.val; omega

/-- The real operators' block at a point. -/
theorem block_operator_re (c : Dev nD) (t : Fin cfg0.N) (A : S16x8x128x512.Idx → EReal) (hA : V m c main_v175 = A)
    (s : Fin 8) (k : Fin 128) (p : Fin 512) (j : Fin 16) (hj : j.val = (grid0.coords t 0).val) :
    (iblk m c 2 t (ix4 0 s k p : S1x8x128x512.Idx) : EReal) = A (ix4 j s k p) := by
  have key : ∀ y : S1x8x128x512.Idx, y = ix4 0 s k p → (iblk m c 2 t y : EReal) = A (ix4 j s k p) := by
    intro y hy
    subst hA
    refine (read2 (V m c main_v175) t y).trans (congrArg _ ?_)
    refine place y _ t j s k p hj hy fun a => (Pipeline.Window.rect_emb_val win0_2 t y a).trans ?_
    rw [(idx t).2.1]
  exact key _ rfl

/-- The imaginary operators' block at a point. -/
theorem block_operator_im (c : Dev nD) (t : Fin cfg0.N) (A : S16x8x128x512.Idx → EReal) (hA : V m c main_v186 = A)
    (s : Fin 8) (k : Fin 128) (p : Fin 512) (j : Fin 16) (hj : j.val = (grid0.coords t 0).val) :
    (iblk m c 3 t (ix4 0 s k p : S1x8x128x512.Idx) : EReal) = A (ix4 j s k p) := by
  have key : ∀ y : S1x8x128x512.Idx, y = ix4 0 s k p → (iblk m c 3 t y : EReal) = A (ix4 j s k p) := by
    intro y hy
    subst hA
    refine (read3 (V m c main_v186) t y).trans (congrArg _ ?_)
    refine place y _ t j s k p hj hy fun a => (Pipeline.Window.rect_emb_val win0_3 t y a).trans ?_
    rw [(idx t).2.2.1]
  exact key _ rfl

/-- The eighth powers' blocks at a point. -/
theorem block_last (c : Dev nD) (t : Fin cfg0.N) (p : Fin 512) (q : Fin 8192) (hq : q.val = (grid0.coords t 0).val * 512 + p.val) :
    (iblk m c 6 t (ix2 0 p : S1x512.Idx) : EReal) = V m c main_v232 (ix2 0 q : S1x8192.Idx)
      ∧ (iblk m c 7 t (ix2 0 p : S1x512.Idx) : EReal) = V m c main_v235 (ix2 0 q : S1x8192.Idx) := by
  constructor
  · show V m c main_v232 (((cfg0.win 6).blk t).view.emb (ix2 0 p : S1x512.Idx)) = _
    refine congrArg (V m c main_v232) (?_ : _ = (ix2 0 q : S1x8192.Idx))
    funext a
    apply Fin.ext
    refine (Pipeline.Window.rect_emb_val win0_6 t (ix2 0 p : S1x512.Idx) a).trans ?_
    rw [(idx t).2.2.2.1]
    match a with
    | ⟨0, _⟩ => rfl
    | ⟨1, _⟩ => exact hq.symm
  · show V m c main_v235 (((cfg0.win 7).blk t).view.emb (ix2 0 p : S1x512.Idx)) = _
    refine congrArg (V m c main_v235) (?_ : _ = (ix2 0 q : S1x8192.Idx))
    funext a
    apply Fin.ext
    refine (Pipeline.Window.rect_emb_val win0_7 t (ix2 0 p : S1x512.Idx) a).trans ?_
    rw [(idx t).2.2.2.2.1]
    match a with
    | ⟨0, _⟩ => rfl
    | ⟨1, _⟩ => exact hq.symm

/-- The previous states' blocks at a point. -/
theorem block_state (c : Dev nD) (t : Fin cfg0.N) (b : Fin 128) (p : Fin 512) (q : Fin 8192) (hq : q.val = (grid0.coords t 0).val * 512 + p.val) :
    (iblk m c 9 t (ix2 b p : S128x512.Idx) : EReal) = V m c main_v238 (ix2 b q : S128x8192.Idx)
      ∧ (iblk m c 10 t (ix2 b p : S128x512.Idx) : EReal) = V m c main_v240 (ix2 b q : S128x8192.Idx) := by
  constructor
  · show V m c main_v238 (((cfg0.win 9).blk t).view.emb (ix2 b p : S128x512.Idx)) = _
    refine congrArg (V m c main_v238) (?_ : _ = (ix2 b q : S128x8192.Idx))
    funext a
    apply Fin.ext
    refine (Pipeline.Window.rect_emb_val win0_9 t (ix2 b p : S128x512.Idx) a).trans ?_
    rw [(idx t).2.2.2.2.2.1]
    match a with
    | ⟨0, _⟩ => show 0 * 128 + b.val = b.val; omega
    | ⟨1, _⟩ => exact hq.symm
  · show V m c main_v240 (((cfg0.win 10).blk t).view.emb (ix2 b p : S128x512.Idx)) = _
    refine congrArg (V m c main_v240) (?_ : _ = (ix2 b q : S128x8192.Idx))
    funext a
    apply Fin.ext
    refine (Pipeline.Window.rect_emb_val win0_10 t (ix2 b p : S128x512.Idx) a).trans ?_
    rw [(idx t).2.2.2.2.2.2.1]
    match a with
    | ⟨0, _⟩ => show 0 * 128 + b.val = b.val; omega
    | ⟨1, _⟩ => exact hq.symm

/-- A claim about the two stored arrays, place by place, follows from what every point stores. -/
theorem arrays (c : Dev nD) (R I : Fin 128 → Fin 8192 → EReal)
    (h : ∀ (t : Fin cfg0.N) (b : Fin 128) (p : Fin 512) (q : Fin 8192), q.val = (grid0.coords t 0).val * 512 + p.val →
      (out0_12 (F := Ideal) (iblk m c 0 t) (iblk m c 1 t) (iblk m c 2 t) (iblk m c 3 t) (iblk m c 4 t) (iblk m c 5 t) (iblk m c 6 t) (iblk m c 7 t)
          (iblk m c 8 t) (iblk m c 9 t) (iblk m c 10 t) (ix2 b p) : EReal) = R b q
        ∧ (out0_13 (F := Ideal) (iblk m c 0 t) (iblk m c 1 t) (iblk m c 2 t) (iblk m c 3 t) (iblk m c 4 t) (iblk m c 5 t) (iblk m c 6 t) (iblk m c 7 t)
          (iblk m c 8 t) (iblk m c 9 t) (iblk m c 10 t) (ix2 b p) : EReal) = I b q) :
    (dats m 0 c).arrAt 12 (cfgs 0).N = (fun i : S128x8192.Idx => (R (i 0) (i 1) : EReal))
      ∧ (dats m 0 c).arrAt 13 (cfgs 0).N = (fun i : S128x8192.Idx => (I (i 0) (i 1) : EReal)) := by
  constructor
  · refine (dats m 0 c).arrAt_eq_of_covers 12 _ (by decide +kernel) fun t _ y => ?_
    blk_simp
    rw [after0_12]
    have key : ∀ y : S128x512.Idx,
        (out0_12 (F := Ideal) (iblk m c 0 t) (iblk m c 1 t) (iblk m c 2 t) (iblk m c 3 t) (iblk m c 4 t) (iblk m c 5 t) (iblk m c 6 t) (iblk m c 7 t)
          (iblk m c 8 t) (iblk m c 9 t) (iblk m c 10 t) y : EReal)
          = R (((View.whole main_v242_1).slice (win0_12.rect t)).emb y 0) (((View.whole main_v242_1).slice (win0_12.rect t)).emb y 1) := by
      intro y
      have e0 := Pipeline.Window.rect_emb_val win0_12 t y 0
      have e1 := Pipeline.Window.rect_emb_val win0_12 t y 1
      rw [(idx t).2.2.2.2.2.2.2.1] at e0 e1
      refine (congrArg _ (eq_ix2 y)).trans ((h t (y 0) (y 1) _ e1).1.trans ?_)
      exact congrArg (fun b => R b _) (Fin.ext (e0.trans (by show 0 * 128 + (y 0).val = (y 0).val; omega)).symm)
    exact key y
  · refine (dats m 0 c).arrAt_eq_of_covers 13 _ (by decide +kernel) fun t _ y => ?_
    blk_simp
    rw [after0_13]
    have key : ∀ y : S128x512.Idx,
        (out0_13 (F := Ideal) (iblk m c 0 t) (iblk m c 1 t) (iblk m c 2 t) (iblk m c 3 t) (iblk m c 4 t) (iblk m c 5 t) (iblk m c 6 t) (iblk m c 7 t)
          (iblk m c 8 t) (iblk m c 9 t) (iblk m c 10 t) y : EReal)
          = I (((View.whole main_v242_2).slice (win0_13.rect t)).emb y 0) (((View.whole main_v242_2).slice (win0_13.rect t)).emb y 1) := by
      intro y
      have e0 := Pipeline.Window.rect_emb_val win0_13 t y 0
      have e1 := Pipeline.Window.rect_emb_val win0_13 t y 1
      rw [(idx t).2.2.2.2.2.2.2.2] at e0 e1
      refine (congrArg _ (eq_ix2 y)).trans ((h t (y 0) (y 1) _ e1).2.trans ?_)
      exact congrArg (fun b => I b _) (Fin.ext (e0.trans (by show 0 * 128 + (y 0).val = (y 0).val; omega)).symm)
    exact key y

/-- The buffers after the call, before the host reshapes its results. -/
def mid (c : Dev nD) : Valuation τ sig (Elt Ideal) :=
  withArrays (cfgs 0).spec c (V0 m c) fun w => (dats m 0 c).arrAt w (cfgs 0).N

/-- The new states, place by place, are the arrays the call leaves. -/
theorem results (c : Dev nD) (R I : Fin 128 → Fin 8192 → EReal)
    (h : (dats m 0 c).arrAt 12 (cfgs 0).N = (fun i : S128x8192.Idx => (R (i 0) (i 1) : EReal))
      ∧ (dats m 0 c).arrAt 13 (cfgs 0).N = (fun i : S128x8192.Idx => (I (i 0) (i 1) : EReal)))
    (b g : Fin 128) (p : Fin 64) :
    (afterTail₀ cfgs (dats m) 0 (V0 m) [hostOps1] c main_v243 (ix4 0 b g p : S1x128x128x64.Idx) : EReal) = R b ⟨g.val * 64 + p.val, by omega⟩
      ∧ (afterTail₀ cfgs (dats m) 0 (V0 m) [hostOps1] c main_v244 (ix4 0 b g p : S1x128x128x64.Idx) : EReal) = I b ⟨g.val * 64 + p.val, by omega⟩ := by
  have h1 : mid m c (Proc.devRef .tc main_v242_1) = _ := (withArrays_arr (cfgs 0).spec (by decide) c (V0 m c) (fun w => (dats m 0 c).arrAt w (cfgs 0).N) 12).trans h.1
  have h2 : mid m c (Proc.devRef .tc main_v242_2) = _ := (withArrays_arr (cfgs 0).spec (by decide) c (V0 m c) (fun w => (dats m 0 c).arrAt w (cfgs 0).N) 13).trans h.2
  constructor
  · show StableHlo.after hostOps1 (mid m c) (Proc.devRef .tc main_v243) (ix4 0 b g p : S1x128x128x64.Idx) = _
    entry_read
    rw [h1]
    pointwise
  · show StableHlo.after hostOps1 (mid m c) (Proc.devRef .tc main_v244) (ix4 0 b g p : S1x128x128x64.Idx) = _
    entry_read
    rw [h2]
    pointwise

end Cert.Kernel4Ideal.States
-- ==== Proof.Walk.lean ====
/- The recurrence of the states over the complex numbers. -/
module

public import proofs.«01_k».proof.Proof.Pairs

@[expose] public section

noncomputable section

namespace Cert.Pairs

/-- What tick `t`'s tokens drive into a state. -/
def inflow (U : Fin 8 → Fin 16 → ℝ) (w : Fin 16 → ℂ) (t : ℕ) : ℂ :=
  if h : t < 8 then ∑ d : Fin 16, (U ⟨t, h⟩ d : ℂ) * w d else 0

/-- A state after a number of ticks. -/
def walk (z : ℂ) (W : ℕ → ℂ) (h : ℂ) : ℕ → ℂ
  | 0 => h
  | t + 1 => z * walk z W h t + W t

/-- The closed form of eight ticks. -/
theorem walk_eight (z : ℂ) (W : ℕ → ℂ) (h : ℂ) :
    z ^ 8 * h + (z ^ 7 * W 0 + z ^ 6 * W 1 + z ^ 5 * W 2 + z ^ 4 * W 3 + z ^ 3 * W 4 + z ^ 2 * W 5 + z ^ 1 * W 6 + z ^ 0 * W 7) = walk z W h 8 :=
  eight_steps z W (walk z W h) fun _ => rfl

end Cert.Pairs

end

end
-- ==== Proof.StateValue.lean ====
/- The state-space step's new states are the recurrence after eight ticks. -/
module

public import proofs.«01_k».proof.Proof.States
public import proofs.«01_k».proof.Proof.Walk

@[expose] public section

set_option maxRecDepth 16384

noncomputable section

namespace Cert.Kernel4Ideal.StateValue

open Cert.Kernel4Ideal Cert.Kernel4Ideal.Gen Cert.Kernel4Ideal.Step Cert.Kernel4Ideal.Discrete Cert.Kernel4Ideal.States Cert.Pairs
open Idealize.ShloMosaic Idealize.ShloMosaic.TcCoe Idealize.ShloMosaic.Pipeline

/-- A product with a vanishing operator vanishes. -/
theorem product_zero {x y : EReal} {z : ℂ} (hz : z = 0) (h : y = (z.re : EReal) ∨ y = (z.im : EReal)) : x * y = 0 := by
  subst hz
  rcases h with rfl | rfl <;> simp

/-- A tick's inputs through a block of operators: only the state's own group counts. -/
theorem driven_holds (u : Vec Ideal S128x8x128 .f32) (A B : Vec Ideal S1x8x128x512 .bf16) (b : Fin 128) (p : Fin 512) (s : Fin 8)
    (y : ℂ) (w : Fin 16 → ℂ) (U : Fin 16 → ℝ)
    (hU : ∀ d : Fin 16, (u (ix3 b s ⟨16 * (p.val / 64) + d.val, by omega⟩) : EReal) = (U d : EReal))
    (hin : ∀ d : Fin 16, Holds (y * w d) (A (ix4 0 s ⟨16 * (p.val / 64) + d.val, by omega⟩ p)) (B (ix4 0 s ⟨16 * (p.val / 64) + d.val, by omega⟩ p)))
    (hout : ∀ k : Fin 128, k.val / 16 ≠ p.val / 64 → Holds 0 (A (ix4 0 s k p)) (B (ix4 0 s k p))) :
    Holds (y * ∑ d : Fin 16, (U d : ℂ) * w d) (driven u A b p s) (driven u B b p s) := by
  unfold driven
  rw [sum_group _ ⟨p.val / 64, by omega⟩ fun k hk => product_zero rfl (Or.inl (hout k hk).1),
    sum_group _ ⟨p.val / 64, by omega⟩ fun k hk => product_zero rfl (Or.inr (hout k hk).2)]
  have e : y * ∑ d : Fin 16, (U d : ℂ) * w d = ∑ d : Fin 16, (U d : ℂ) * (y * w d) := by
    rw [Finset.mul_sum]
    exact Finset.sum_congr rfl fun d _ => by ring
  rw [e]
  exact Holds.sum fun d => Holds.scale (hU d) (hin d)

/-- The sample's tokens, as real numbers, by state group. -/
def Tokens (m : (ℓ : Loc nD τ sig) → Buf (Elt Ideal) ℓ) (c : Dev nD) (U : Fin 128 → Fin 128 → Fin 8 → Fin 16 → ℝ) : Prop :=
  ∀ (b g : Fin 128) (s : Fin 8) (d : Fin 16),
    (m ((c : Thread nD τ).loc main_arg0) (ix3 ⟨1024 + b.val, by omega⟩ s ⟨g.val * 16 + d.val, by omega⟩ : S1152x8x2048.Idx) : EReal) = (U b g s d : EReal)

variable (m : (ℓ : Loc nD τ sig) → Buf (Elt Ideal) ℓ) (c : Dev nD) (z : Fin 128 → Fin 64 → ℂ) (w : Fin 128 → Fin 64 → Fin 16 → ℂ)
  (h : Fin 128 → Fin 128 → Fin 64 → ℂ) (U : Fin 128 → Fin 128 → Fin 8 → Fin 16 → ℝ)
  (hz : ∀ g p, Holds (z g p) (rateRe m c (ix2 g p)) (rateIm m c (ix2 g p)))
  (hw : ∀ g p d, Holds (w g p d) (inputRe m c (ix3 g p d)) (inputIm m c (ix3 g p d)))
  (hh : ∀ b g p, Holds (h b g p) (m ((c : Thread nD τ).loc main_arg1) (ix4 0 b g p : S1x128x128x64.Idx))
    (m ((c : Thread nD τ).loc main_arg2) (ix4 0 b g p : S1x128x128x64.Idx)))
  (hU : Tokens m c U)
include hz hw hh hU

/-- A tick's drive at a point. -/
theorem tick_holds (t : Fin cfg0.N) (b : Fin 128) (p : Fin 512) (s : Fin 8) (g : Fin 128) (p' : Fin 64)
    (hg : g.val = (grid0.coords t 0).val * 8 + p.val / 64) (hp : p'.val = p.val % 64) :
    Holds (z g p' ^ (7 - s.val) * inflow (U b g) (w g p') s.val) (driven (iblk m c 0 t) (iblk m c 2 t) b p s) (driven (iblk m c 0 t) (iblk m c 3 t) b p s) := by
  have hj : (grid0.coords t 0).val < 16 := (grid0.coords t 0).isLt
  unfold inflow
  rw [dif_pos s.isLt]
  refine driven_holds _ _ _ b p s _ _ _ (fun d => ?_) (fun d => ?_) (fun k hk => ?_)
  · exact (block_inputs m c t b s _ ⟨g.val * 16 + d.val, by omega⟩ (by show g.val * 16 + d.val = _ * 128 + (16 * (p.val / 64) + d.val); omega)).trans (hU b g s d)
  · rw [block_operator_re m c t _ rfl s _ p ⟨_, hj⟩ rfl, block_operator_im m c t _ rfl s _ p ⟨_, hj⟩ rfl]
    exact operator_holds m c z w hz hw ⟨_, hj⟩ s _ p g p' d (by show g.val = (grid0.coords t 0).val * 8 + (16 * (p.val / 64) + d.val) / 16; omega) hp
      (by show d.val = (16 * (p.val / 64) + d.val) % 16; omega) (by show (16 * (p.val / 64) + d.val) / 16 = p.val / 64; omega)
  · rw [block_operator_re m c t _ rfl s _ p ⟨_, hj⟩ rfl, block_operator_im m c t _ rfl s _ p ⟨_, hj⟩ rfl]
    exact operator_zero m c ⟨_, hj⟩ s k p hk

/-- What a point stores of the states. -/
theorem stored_holds (t : Fin cfg0.N) (b : Fin 128) (p : Fin 512) (q : Fin 8192) (hq : q.val = (grid0.coords t 0).val * 512 + p.val) (g : Fin 128) (p' : Fin 64)
    (hg : g.val = q.val / 64) (hp : p'.val = q.val % 64) :
    Holds (walk (z g p') (inflow (U b g) (w g p')) (h b g p') 8)
      (out0_12 (F := Ideal) (iblk m c 0 t) (iblk m c 1 t) (iblk m c 2 t) (iblk m c 3 t) (iblk m c 4 t) (iblk m c 5 t) (iblk m c 6 t) (iblk m c 7 t)
          (iblk m c 8 t) (iblk m c 9 t) (iblk m c 10 t) (ix2 b p))
      (out0_13 (F := Ideal) (iblk m c 0 t) (iblk m c 1 t) (iblk m c 2 t) (iblk m c 3 t) (iblk m c 4 t) (iblk m c 5 t) (iblk m c 6 t) (iblk m c 7 t)
          (iblk m c 8 t) (iblk m c 9 t) (iblk m c 10 t) (ix2 b p)) := by
  rw [out12_at, out13_at, ← walk_eight]
  have l1 : q.val / 64 < 128 := by omega
  have l2 : q.val % 64 < 64 := by omega
  obtain rfl : g = ⟨q.val / 64, l1⟩ := Fin.ext hg
  obtain rfl : p' = ⟨q.val % 64, l2⟩ := Fin.ext hp
  have k := fun s => tick_holds m c z w h U hz hw hh hU t b p s ⟨q.val / 64, l1⟩ ⟨q.val % 64, l2⟩ (by show q.val / 64 = _; omega) (by show q.val % 64 = _; omega)
  have a := last_holds m c z hz q
  rw [← (block_last m c t p q hq).1, ← (block_last m c t p q hq).2] at a
  have hs := hh b ⟨q.val / 64, l1⟩ ⟨q.val % 64, l2⟩
  rw [← V_main_arg1 m c, ← V_main_arg2 m c] at hs
  have r1 := ((block_state m c t b p q hq).1.trans (state_re m c b q _ rfl)).trans hs.1
  have r2 := ((block_state m c t b p q hq).2.trans (state_im m c b q _ rfl)).trans hs.2
  exact (a.mul ⟨r1, r2⟩).add ((((((((k 0).add (k 1)).add (k 2)).add (k 3)).add (k 4)).add (k 5)).add (k 6)).add (k 7))

/-- The new states the host hands back are the recurrence after eight ticks. -/
theorem result_holds (b g : Fin 128) (p : Fin 64) :
    Holds (walk (z g p) (inflow (U b g) (w g p)) (h b g p) 8)
      (afterTail₀ cfgs (dats m) 0 (V0 m) [hostOps1] c main_v243 (ix4 0 b g p : S1x128x128x64.Idx))
      (afterTail₀ cfgs (dats m) 0 (V0 m) [hostOps1] c main_v244 (ix4 0 b g p : S1x128x128x64.Idx)) := by
  let Z : Fin 128 → Fin 8192 → ℂ := fun b q =>
    walk (z ⟨q.val / 64, by omega⟩ ⟨q.val % 64, by omega⟩) (inflow (U b ⟨q.val / 64, by omega⟩) (w ⟨q.val / 64, by omega⟩ ⟨q.val % 64, by omega⟩))
      (h b ⟨q.val / 64, by omega⟩ ⟨q.val % 64, by omega⟩) 8
  have k := results m c (fun b q => ((Z b q).re : EReal)) (fun b q => ((Z b q).im : EReal))
    (arrays m c (fun b q => ((Z b q).re : EReal)) (fun b q => ((Z b q).im : EReal)) fun t b p q hq => stored_holds m c z w h U hz hw hh hU t b p q hq ⟨q.val / 64, by omega⟩ ⟨q.val % 64, by omega⟩ rfl rfl) b g p
  have e1 : (⟨(g.val * 64 + p.val) / 64, by omega⟩ : Fin 128) = g := Fin.ext (by show (g.val * 64 + p.val) / 64 = g.val; omega)
  have e2 : (⟨(g.val * 64 + p.val) % 64, by omega⟩ : Fin 64) = p := Fin.ext (by show (g.val * 64 + p.val) % 64 = p.val; omega)
  have e : Z b ⟨g.val * 64 + p.val, by omega⟩ = walk (z g p) (inflow (U b g) (w g p)) (h b g p) 8 := by
    show walk (z ⟨(g.val * 64 + p.val) / 64, _⟩ ⟨(g.val * 64 + p.val) % 64, _⟩) _ _ 8 = _
    rw [e1, e2]
  rw [← e]
  exact k

end Cert.Kernel4Ideal.StateValue

end

end
-- ==== Proof.StateRef.lean ====
/- The state-space step as the reference computes it: one tick of the recurrence after another. -/
module

public import proofs.«01_k».proof.Proof.Walk
public import proofs.«01_k».proof.Proof.Gen.Reference4Ideal.Read
public import Idealize.ShloMosaic.Lib.Pointwise

@[expose] public section

set_option maxRecDepth 16384

noncomputable section

namespace Cert.Reference4Ideal.StateStep

open Cert.Reference4Ideal Cert.Reference4Ideal.Read Cert.Pairs
open Idealize.ShloMosaic Idealize.ShloMosaic.TcCoe

variable (x0 : (⟨S1152x8x2048, .f32⟩ : BufTy).Contents (Elt Ideal)) (x1 x2 : (⟨S1x128x128x64, .f32⟩ : BufTy).Contents (Elt Ideal))
  (x3 x4 : (⟨S1x128x64, .f32⟩ : BufTy).Contents (Elt Ideal)) (x5 : (⟨S1x128, .f32⟩ : BufTy).Contents (Elt Ideal))
  (x6 x7 : (⟨S1x128x64x16, .f32⟩ : BufTy).Contents (Elt Ideal))

/-- The states' real parts after a number of ticks. -/
def stateRe : ℕ → S128x128x64.Idx → EReal
  | 0 => val_main_v55 (F := Ideal) x1
  | 1 => val_main_v66 (F := Ideal) x0 x1 x2 x3 x4 x5 x6 x7
  | 2 => val_main_v86 (F := Ideal) x0 x1 x2 x3 x4 x5 x6 x7
  | 3 => val_main_v106 (F := Ideal) x0 x1 x2 x3 x4 x5 x6 x7
  | 4 => val_main_v126 (F := Ideal) x0 x1 x2 x3 x4 x5 x6 x7
  | 5 => val_main_v146 (F := Ideal) x0 x1 x2 x3 x4 x5 x6 x7
  | 6 => val_main_v166 (F := Ideal) x0 x1 x2 x3 x4 x5 x6 x7
  | 7 => val_main_v186 (F := Ideal) x0 x1 x2 x3 x4 x5 x6 x7
  | 8 => val_main_v206 (F := Ideal) x0 x1 x2 x3 x4 x5 x6 x7
  | _ => fun _ => 0

/-- The states' imaginary parts after a number of ticks. -/
def stateIm : ℕ → S128x128x64.Idx → EReal
  | 0 => val_main_v56 (F := Ideal) x2
  | 1 => val_main_v76 (F := Ideal) x0 x1 x2 x3 x4 x5 x6 x7
  | 2 => val_main_v96 (F := Ideal) x0 x1 x2 x3 x4 x5 x6 x7
  | 3 => val_main_v116 (F := Ideal) x0 x1 x2 x3 x4 x5 x6 x7
  | 4 => val_main_v136 (F := Ideal) x0 x1 x2 x3 x4 x5 x6 x7
  | 5 => val_main_v156 (F := Ideal) x0 x1 x2 x3 x4 x5 x6 x7
  | 6 => val_main_v176 (F := Ideal) x0 x1 x2 x3 x4 x5 x6 x7
  | 7 => val_main_v196 (F := Ideal) x0 x1 x2 x3 x4 x5 x6 x7
  | 8 => val_main_v216 (F := Ideal) x0 x1 x2 x3 x4 x5 x6 x7
  | _ => fun _ => 0

/-- What a tick's tokens drive into the states' real parts. -/
theorem drive_re (b : Fin 128) (t : Fin 8) (g : Fin 128) (p : Fin 64) :
    (val_main_v52 (F := Ideal) x0 x3 x4 x5 x6 x7 (ix4 b t g p) : EReal)
      = ∑ d : Fin 16, (x0 (ix3 ⟨1024 + b.val, by omega⟩ t ⟨g.val * 16 + d.val, by omega⟩) : EReal) * val_main_v41 (F := Ideal) x3 x4 x5 x6 x7 (ix3 g p d) := by
  unfold val_main_v52
  pointwise
  rw [val_main_v51_apply]
  refine Finset.sum_congr rfl fun d _ => (mul_comm _ _).trans ?_
  refine congrArg₂ (· * ·) ?_ ?_
  · unfold val_main_v1 val_main_v0
    pointwise
  · rfl

/-- What a tick's tokens drive into the states' imaginary parts. -/
theorem drive_im (b : Fin 128) (t : Fin 8) (g : Fin 128) (p : Fin 64) :
    (val_main_v54 (F := Ideal) x0 x3 x4 x5 x6 x7 (ix4 b t g p) : EReal)
      = ∑ d : Fin 16, (x0 (ix3 ⟨1024 + b.val, by omega⟩ t ⟨g.val * 16 + d.val, by omega⟩) : EReal) * val_main_v50 (F := Ideal) x3 x4 x5 x6 x7 (ix3 g p d) := by
  unfold val_main_v54
  pointwise
  rw [val_main_v53_apply]
  refine Finset.sum_congr rfl fun d _ => (mul_comm _ _).trans ?_
  refine congrArg₂ (· * ·) ?_ ?_
  · unfold val_main_v1 val_main_v0
    pointwise
  · rfl

/-- One tick: the state times the rate, plus what the tokens drive in. -/
theorem tick (t : ℕ) (ht : t < 8) (b g : Fin 128) (p : Fin 64) :
    stateRe x0 x1 x2 x3 x4 x5 x6 x7 (t + 1) (ix3 b g p)
        = ((val_main_v15 (F := Ideal) x3 x4 x5 (ix2 g p) : EReal) * stateRe x0 x1 x2 x3 x4 x5 x6 x7 t (ix3 b g p)
            - val_main_v19 (F := Ideal) x3 x4 x5 (ix2 g p) * stateIm x0 x1 x2 x3 x4 x5 x6 x7 t (ix3 b g p))
          + val_main_v52 (F := Ideal) x0 x3 x4 x5 x6 x7 (ix4 b ⟨t, ht⟩ g p)
      ∧ stateIm x0 x1 x2 x3 x4 x5 x6 x7 (t + 1) (ix3 b g p)
        = ((val_main_v15 (F := Ideal) x3 x4 x5 (ix2 g p) : EReal) * stateIm x0 x1 x2 x3 x4 x5 x6 x7 t (ix3 b g p)
            + val_main_v19 (F := Ideal) x3 x4 x5 (ix2 g p) * stateRe x0 x1 x2 x3 x4 x5 x6 x7 t (ix3 b g p))
          + val_main_v54 (F := Ideal) x0 x3 x4 x5 x6 x7 (ix4 b ⟨t, ht⟩ g p) := by
  interval_cases t <;> refine ⟨?_, ?_⟩ <;> simp only [stateRe, stateIm, Nat.reduceAdd] <;>
    first
    | rw [val_main_v216_apply]
    | rw [val_main_v206_apply]
    | rw [val_main_v196_apply]
    | rw [val_main_v186_apply]
    | rw [val_main_v176_apply]
    | rw [val_main_v166_apply]
    | rw [val_main_v156_apply]
    | rw [val_main_v146_apply]
    | rw [val_main_v136_apply]
    | rw [val_main_v126_apply]
    | rw [val_main_v116_apply]
    | rw [val_main_v106_apply]
    | rw [val_main_v96_apply]
    | rw [val_main_v86_apply]
    | rw [val_main_v76_apply]
    | rw [val_main_v66_apply]
  all_goals
    pointwise [
      val_main_v57, val_main_v58, val_main_v59, val_main_v60, val_main_v61, val_main_v62, val_main_v63, val_main_v64, val_main_v65, val_main_v67,
      val_main_v68, val_main_v69, val_main_v70, val_main_v71, val_main_v72, val_main_v73, val_main_v74, val_main_v75, val_main_v77, val_main_v78,
      val_main_v79, val_main_v80, val_main_v81, val_main_v82, val_main_v83, val_main_v84, val_main_v85, val_main_v87, val_main_v88, val_main_v89,
      val_main_v90, val_main_v91, val_main_v92, val_main_v93, val_main_v94, val_main_v95, val_main_v97, val_main_v98, val_main_v99, val_main_v100,
      val_main_v101, val_main_v102, val_main_v103, val_main_v104, val_main_v105, val_main_v107, val_main_v108, val_main_v109, val_main_v110,
      val_main_v111, val_main_v112, val_main_v113, val_main_v114, val_main_v115, val_main_v117, val_main_v118, val_main_v119, val_main_v120,
      val_main_v121, val_main_v122, val_main_v123, val_main_v124, val_main_v125, val_main_v127, val_main_v128, val_main_v129, val_main_v130,
      val_main_v131, val_main_v132, val_main_v133, val_main_v134, val_main_v135, val_main_v137, val_main_v138, val_main_v139, val_main_v140,
      val_main_v141, val_main_v142, val_main_v143, val_main_v144, val_main_v145, val_main_v147, val_main_v148, val_main_v149, val_main_v150,
      val_main_v151, val_main_v152, val_main_v153, val_main_v154, val_main_v155, val_main_v157, val_main_v158, val_main_v159, val_main_v160,
      val_main_v161, val_main_v162, val_main_v163, val_main_v164, val_main_v165, val_main_v167, val_main_v168, val_main_v169, val_main_v170,
      val_main_v171, val_main_v172, val_main_v173, val_main_v174, val_main_v175, val_main_v177, val_main_v178, val_main_v179, val_main_v180,
      val_main_v181, val_main_v182, val_main_v183, val_main_v184, val_main_v185, val_main_v187, val_main_v188, val_main_v189, val_main_v190,
      val_main_v191, val_main_v192, val_main_v193, val_main_v194, val_main_v195, val_main_v197, val_main_v198, val_main_v199, val_main_v200,
      val_main_v201, val_main_v202, val_main_v203, val_main_v204, val_main_v205, val_main_v207, val_main_v208, val_main_v209, val_main_v210,
      val_main_v211, val_main_v212, val_main_v213, val_main_v214, val_main_v215]

/-- The states after any number of ticks are the recurrence's. -/
theorem states_hold (b g : Fin 128) (p : Fin 64) (z h : ℂ) (w : Fin 16 → ℂ) (U : Fin 8 → Fin 16 → ℝ)
    (hz : Holds z (val_main_v15 (F := Ideal) x3 x4 x5 (ix2 g p)) (val_main_v19 (F := Ideal) x3 x4 x5 (ix2 g p)))
    (hw : ∀ d, Holds (w d) (val_main_v41 (F := Ideal) x3 x4 x5 x6 x7 (ix3 g p d)) (val_main_v50 (F := Ideal) x3 x4 x5 x6 x7 (ix3 g p d)))
    (hU : ∀ s d, (x0 (ix3 ⟨1024 + b.val, by omega⟩ s ⟨g.val * 16 + d.val, by omega⟩) : EReal) = (U s d : EReal))
    (hh : Holds h (x1 (ix4 0 b g p)) (x2 (ix4 0 b g p))) :
    ∀ t ≤ 8, Holds (walk z (inflow U w) h t) (stateRe x0 x1 x2 x3 x4 x5 x6 x7 t (ix3 b g p)) (stateIm x0 x1 x2 x3 x4 x5 x6 x7 t (ix3 b g p)) := by
  intro t
  induction t with
  | zero =>
    intro _
    refine ⟨Eq.trans ?_ hh.1, Eq.trans ?_ hh.2⟩
    · pointwise [stateRe, val_main_v55]
    · pointwise [stateIm, val_main_v56]
  | succ t ih =>
    intro ht
    obtain ⟨e1, e2⟩ := tick x0 x1 x2 x3 x4 x5 x6 x7 t (by omega) b g p
    rw [e1, e2, drive_re, drive_im]
    refine (hz.mul (ih (by omega))).add ?_
    unfold inflow
    rw [dif_pos (by omega : t < 8)]
    exact Holds.sum fun d => Holds.scale (hU _ d) (hw d)

/-- The new states are the recurrence after eight ticks. -/
theorem result_holds (b g : Fin 128) (p : Fin 64) (z h : ℂ) (w : Fin 16 → ℂ) (U : Fin 8 → Fin 16 → ℝ)
    (hz : Holds z (val_main_v15 (F := Ideal) x3 x4 x5 (ix2 g p)) (val_main_v19 (F := Ideal) x3 x4 x5 (ix2 g p)))
    (hw : ∀ d, Holds (w d) (val_main_v41 (F := Ideal) x3 x4 x5 x6 x7 (ix3 g p d)) (val_main_v50 (F := Ideal) x3 x4 x5 x6 x7 (ix3 g p d)))
    (hU : ∀ s d, (x0 (ix3 ⟨1024 + b.val, by omega⟩ s ⟨g.val * 16 + d.val, by omega⟩) : EReal) = (U s d : EReal))
    (hh : Holds h (x1 (ix4 0 b g p)) (x2 (ix4 0 b g p))) :
    Holds (walk z (inflow U w) h 8) (val_main_v217 (F := Ideal) x0 x1 x2 x3 x4 x5 x6 x7 (ix4 0 b g p))
      (val_main_v218 (F := Ideal) x0 x1 x2 x3 x4 x5 x6 x7 (ix4 0 b g p)) := by
  have k := states_hold x0 x1 x2 x3 x4 x5 x6 x7 b g p z h w U hz hw hU hh 8 le_rfl
  refine ⟨Eq.trans ?_ k.1, Eq.trans ?_ k.2⟩
  · pointwise [stateRe, val_main_v217]
  · pointwise [stateIm, val_main_v218]

end Cert.Reference4Ideal.StateStep

end

end
-- ==== Proof.StateMatch.lean ====
/- The state-space step and its reference leave the same new states. -/
module

public import proofs.«01_k».proof.Defs
public import proofs.«01_k».proof.Proof.StateValue
public import proofs.«01_k».proof.Proof.StateRef
public import proofs.«01_k».proof.Proof.Finite
public import proofs.«01_k».proof.Proof.Gen.Kernel4Ideal
public import proofs.«01_k».proof.Proof.Gen.Reference4Ideal
public import proofs.«01_k».proof.Proof.Gen.Reference4Ideal.Run
public import proofs.«01_k».proof.Proof.Gen.Pre_all_finite

@[expose] public section

set_option maxRecDepth 16384

noncomputable section

namespace Cert.StateStep

open Cert.Kernel4Ideal Cert.Kernel4Ideal.Gen Cert.Kernel4Ideal.Discrete Cert.Pairs
open Idealize.ShloMosaic Idealize.ShloMosaic.TcCoe Idealize.ShloMosaic.Pipeline Idealize.SL.Sem
open Cert.Reference4Ideal.Read (val_main_v217 val_main_v218)

variable (m : (ℓ : Loc nD τ sig) → Buf (Elt Ideal) ℓ)

/-- The reference's new real parts, from the arguments of the call. -/
def refRe (c : Dev nD) : FVec Ideal S1x128x128x64 .f32 :=
  val_main_v217 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- The reference's new imaginary parts. -/
def refIm (c : Dev nD) : FVec Ideal S1x128x128x64 .f32 :=
  val_main_v218 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- On finite arguments the closed form of eight ticks and the eight ticks one by one give the same states. -/
theorem states_eq (hpre : Cert.Pre_Kernel4Ideal m) (c : Dev nD) (b g : Fin 128) (p : Fin 64) :
    refRe m c (ix4 0 b g p) = afterTail₀ cfgs (dats m) 0 (V0 m) [hostOps1] c main_v243 (ix4 0 b g p : S1x128x128x64.Idx)
      ∧ refIm m c (ix4 0 b g p) = afterTail₀ cfgs (dats m) 0 (V0 m) [hostOps1] c main_v244 (ix4 0 b g p : S1x128x128x64.Idx) := by
  obtain ⟨r0, r1, r2, r3, r4, r5, r6, r7⟩ := Cert.Finite.args_real _ _ _ _ _ _ _ _ _ _ _ (congrFun (hpre c) ix0)
  choose z hz using Cert.Finite.rate_holds _ _ _ r3 r4 r5
  choose w hw using Cert.Finite.input_holds _ _ _ _ _ r3 r4 r5 r6 r7
  choose U hU using r0
  choose h hh using fun (b g : Fin 128) (p : Fin 64) => (r1 (ix4 0 b g p)).pair (r2 (ix4 0 b g p))
  refine Holds.unique
    (Cert.Reference4Ideal.StateStep.result_holds _ _ _ _ _ _ _ _ b g p (z g p) (h b g p) (w g p)
      (fun s d => U (ix3 ⟨1024 + b.val, by omega⟩ s ⟨g.val * 16 + d.val, by omega⟩)) (hz g p) (hw g p) (fun s d => hU _) (hh b g p))
    (Cert.Kernel4Ideal.StateValue.result_holds m c z w h
      (fun b g s d => U (ix3 ⟨1024 + b.val, by omega⟩ s ⟨g.val * 16 + d.val, by omega⟩)) hz hw hh (fun b g s d => hU _) b g p) rfl

/-- The state-space step and its reference, from equal finite arguments, end with equal new states. -/
theorem value_step : Cert.algebraic_Kernel4Ideal_Reference4Ideal := by
  intro m g m' g' hpre hagree
  refine ⟨fun c => afterTail₀ cfgs (dats m) 0 (V0 m) [hostOps1] c main_v243, fun c => afterTail₀ cfgs (dats m) 0 (V0 m) [hostOps1] c main_v244, ?_, ?_⟩
  · exact θ_run_mono (θ_run_and (run_main m g) (unchanged m g)) fun r h c =>
      ⟨(h.1 c).2 main_v243 (by decide), (h.1 c).2 main_v244 (by decide), h.2 c⟩
  · refine θ_run_mono (Cert.Reference4Ideal.Value.run m' g') fun r h c => ?_
    obtain ⟨h0, h1, h2, h3, h4, h5, h6, h7, -⟩ := hagree c
    obtain ⟨e0, e1, ha⟩ := h c
    refine ⟨(e0.trans (Cert.Reference4Ideal.Read.val_main_v217_eq _)).trans ?_, (e1.trans (Cert.Reference4Ideal.Read.val_main_v218_eq _)).trans ?_, ha⟩
    · show val_main_v217 (F := Ideal)
        (m' ((c : Thread Cert.Reference4Ideal.nD Cert.Reference4Ideal.τ).loc Cert.Reference4Ideal.main_arg0)) (m' ((c : Thread Cert.Reference4Ideal.nD Cert.Reference4Ideal.τ).loc Cert.Reference4Ideal.main_arg1))
        (m' ((c : Thread Cert.Reference4Ideal.nD Cert.Reference4Ideal.τ).loc Cert.Reference4Ideal.main_arg2)) (m' ((c : Thread Cert.Reference4Ideal.nD Cert.Reference4Ideal.τ).loc Cert.Reference4Ideal.main_arg3))
        (m' ((c : Thread Cert.Reference4Ideal.nD Cert.Reference4Ideal.τ).loc Cert.Reference4Ideal.main_arg4)) (m' ((c : Thread Cert.Reference4Ideal.nD Cert.Reference4Ideal.τ).loc Cert.Reference4Ideal.main_arg5))
        (m' ((c : Thread Cert.Reference4Ideal.nD Cert.Reference4Ideal.τ).loc Cert.Reference4Ideal.main_arg6)) (m' ((c : Thread Cert.Reference4Ideal.nD Cert.Reference4Ideal.τ).loc Cert.Reference4Ideal.main_arg7)) = _
      rw [h0, h1, h2, h3, h4, h5, h6, h7]
      funext i
      obtain ⟨a, b, k, p, rfl⟩ : ∃ (a : Fin 1) (b k : Fin 128) (p : Fin 64), i = (ix4 a b k p : S1x128x128x64.Idx) := ⟨_, _, _, _, eq_ix4 i⟩
      obtain rfl : a = 0 := Subsingleton.elim _ _
      exact (states_eq m hpre c b k p).1
    · show val_main_v218 (F := Ideal)
        (m' ((c : Thread Cert.Reference4Ideal.nD Cert.Reference4Ideal.τ).loc Cert.Reference4Ideal.main_arg0)) (m' ((c : Thread Cert.Reference4Ideal.nD Cert.Reference4Ideal.τ).loc Cert.Reference4Ideal.main_arg1))
        (m' ((c : Thread Cert.Reference4Ideal.nD Cert.Reference4Ideal.τ).loc Cert.Reference4Ideal.main_arg2)) (m' ((c : Thread Cert.Reference4Ideal.nD Cert.Reference4Ideal.τ).loc Cert.Reference4Ideal.main_arg3))
        (m' ((c : Thread Cert.Reference4Ideal.nD Cert.Reference4Ideal.τ).loc Cert.Reference4Ideal.main_arg4)) (m' ((c : Thread Cert.Reference4Ideal.nD Cert.Reference4Ideal.τ).loc Cert.Reference4Ideal.main_arg5))
        (m' ((c : Thread Cert.Reference4Ideal.nD Cert.Reference4Ideal.τ).loc Cert.Reference4Ideal.main_arg6)) (m' ((c : Thread Cert.Reference4Ideal.nD Cert.Reference4Ideal.τ).loc Cert.Reference4Ideal.main_arg7)) = _
      rw [h0, h1, h2, h3, h4, h5, h6, h7]
      funext i
      obtain ⟨a, b, k, p, rfl⟩ : ∃ (a : Fin 1) (b k : Fin 128) (p : Fin 64), i = (ix4 a b k p : S1x128x128x64.Idx) := ⟨_, _, _, _, eq_ix4 i⟩
      obtain rfl : a = 0 := Subsingleton.elim _ _
      exact (states_eq m hpre c b k p).2

end Cert.StateStep

end

end
-- ==== Proof.lean ====
/- The proof of the claim: the frames, the idealization, and the equality of the values. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_tables_in_range
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_all_finite
public import proofs.«01_k».proof.Proof.Tables
public import proofs.«01_k».proof.Proof.Match
public import proofs.«01_k».proof.Proof.Project
public import proofs.«01_k».proof.Proof.CombineMatch
public import proofs.«01_k».proof.Proof.StateMatch
public import Idealize.ShloMosaic.Lib.Claim
public import Idealize.ShloMosaic.Lib.Quiescent

@[expose] public section

noncomputable section

namespace Cert.Proof

open Idealize.ShloMosaic Idealize.SL.Sem

/-- The expert feed-forward terminates, leaves its arguments and every counter as required, on bit patterns. -/
theorem frame_expert : Cert.quiescent_Kernel := fun m g h => Cert.Kernel.Gen.frame m g (Cert.Kernel.Tables.ok_of_pre m h)

/-- The same on extended reals. -/
theorem frame_expert_ideal : Cert.quiescent_KernelIdeal := fun m g h => Cert.KernelIdeal.Gen.frame m g (Cert.KernelIdeal.Tables.ok_of_pre m h)

/-- The reference of the expert feed-forward terminates and leaves its arguments unchanged. -/
theorem frame_expert_ref : Cert.quiescent_ReferenceIdeal := by
  intro m g _
  exact θ_run_mono (Cert.ReferenceIdeal.Value.run m g) fun r h => ⟨fun c => (h c).2, sem_eq_zero_of_no_sems rfl r.2⟩

/-- The expert feed-forward and its reference leave the same result. -/
theorem value_expert : Cert.algebraic_KernelIdeal_ReferenceIdeal := by
  intro m g m' g' hpre hagree
  have hO := Cert.KernelIdeal.Tables.ok_of_pre m hpre
  have hr := Cert.KernelIdeal.Tables.te_tv_of_pre m hpre
  refine ⟨fun c => (fun i : Cert.KernelIdeal.S22528x2048.Idx => (Cert.KernelIdeal.Expert.result m c (i 0) (i 1) : EReal)), ?_, ?_⟩
  · exact θ_run_mono (θ_run_and (Cert.KernelIdeal.Gen.run_main m g hO) (Cert.KernelIdeal.Gen.unchanged m g hO)) fun r h c =>
      ⟨((h.1 c).1 5).trans (Cert.KernelIdeal.Expert.array_eq m hO hr c), h.2 c⟩
  · refine θ_run_mono (Cert.ReferenceIdeal.Value.run m' g') fun r h c => ⟨(h c).1.trans ?_, (h c).2⟩
    refine (Cert.ReferenceIdeal.Read.val_main_v27_eq _ _ _ _ _ _ _).trans ?_
    obtain ⟨h0, h1, h2, h3, h4, h5, h6⟩ := hagree c
    rw [h0, h1, h2, h3, h4, h5, h6]
    funext i
    have hi : i = (ix2 (i 0) (i 1) : Cert.KernelIdeal.S22528x2048.Idx) := eq_ix2 i
    refine (congrArg _ hi).trans ?_
    exact Cert.Expert.value_eq m hr c (i 0) (i 1)

/-- The projection terminates, leaves its arguments unchanged and every counter at zero, on bit patterns. -/
theorem frame_project : Cert.quiescent_Kernel2 := fun m g _ => Cert.Kernel2.Gen.frame m g

/-- The same on extended reals. -/
theorem frame_project_ideal : Cert.quiescent_Kernel2Ideal := fun m g _ => Cert.Kernel2Ideal.Gen.frame m g

/-- The reference of the projection terminates and leaves its arguments unchanged. -/
theorem frame_project_ref : Cert.quiescent_Reference2Ideal := by
  intro m g _
  exact θ_run_mono (Cert.Reference2Ideal.Value.run m g) fun r h => ⟨fun c => (h c).2.2.2.2.2, sem_eq_zero_of_no_sems rfl r.2⟩

/-- The combination with its layer norm terminates, leaves its arguments unchanged and every counter at zero, on bit patterns. -/
theorem frame_combine : Cert.quiescent_Kernel3 := fun m g _ => Cert.Kernel3.Gen.frame m g

/-- The same on extended reals. -/
theorem frame_combine_ideal : Cert.quiescent_Kernel3Ideal := fun m g _ => Cert.Kernel3Ideal.Gen.frame m g

/-- The reference of the combination terminates and leaves its arguments unchanged. -/
theorem frame_combine_ref : Cert.quiescent_Reference3Ideal := by
  intro m g _
  exact θ_run_mono (Cert.Reference3Ideal.Value.run m g) fun r h => ⟨fun c => (h c).2.2, sem_eq_zero_of_no_sems rfl r.2⟩

/-- The state-space step terminates, leaves its arguments unchanged and every counter at zero, on bit patterns. -/
theorem frame_step : Cert.quiescent_Kernel4 := fun m g _ => Cert.Kernel4.Gen.frame m g

/-- The same on extended reals. -/
theorem frame_step_ideal : Cert.quiescent_Kernel4Ideal := fun m g _ => Cert.Kernel4Ideal.Gen.frame m g

/-- The reference of the state-space step terminates and leaves its arguments unchanged. -/
theorem frame_step_ref : Cert.quiescent_Reference4Ideal := by
  intro m g _
  exact θ_run_mono (Cert.Reference4Ideal.Value.run m g) fun r h => ⟨fun c => (h c).2.2, sem_eq_zero_of_no_sems rfl r.2⟩

/-- Every claim about the four programs. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Pre_tables_in_range.Gen.facts, Cert.Pre_all_finite.Gen.facts,
  frame_expert, frame_expert_ideal, frame_expert_ref, frame_project, frame_project_ideal, frame_project_ref,
  frame_combine, frame_combine_ideal, frame_combine_ref, frame_step, frame_step_ideal, frame_step_ref,
  trivial, value_expert, trivial, Cert.Project.value_project, trivial, Cert.Combine.value_combine, trivial, Cert.StateStep.value_step⟩

end Cert.Proof

end
